-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v24_2)) (v2 : (c : Dev Cert.KernelIdeal.nD) → Buf (Elt Ideal) ((c.tc : Thread Cert.KernelIdeal.nD Cert.KernelIdeal.τ).loc Cert.KernelIdeal.main_v27)) (v3 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v24_2) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_v26) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x16 : Shape := ⟨2, ![32, 16]⟩
abbrev S32x12x32 : Shape := ⟨3, ![32, 12, 32]⟩
abbrev S32x12x11x16 : Shape := ⟨4, ![32, 12, 11, 16]⟩
abbrev S6x64x208 : Shape := ⟨3, ![6, 64, 208]⟩
abbrev S6x64 : Shape := ⟨2, ![6, 64]⟩
abbrev S2x64 : Shape := ⟨2, ![2, 64]⟩
abbrev S132x132 : Shape := ⟨2, ![132, 132]⟩
abbrev S264x36 : Shape := ⟨2, ![264, 36]⟩
abbrev S208x6x64 : Shape := ⟨3, ![208, 6, 64]⟩
abbrev S208x384 : Shape := ⟨2, ![208, 384]⟩
abbrev S32x384 : Shape := ⟨2, ![32, 384]⟩
abbrev S32x1152 : Shape := ⟨2, ![32, 1152]⟩
abbrev S_ : Shape := ⟨0, ![]⟩
abbrev S17x768 : Shape := ⟨2, ![17, 768]⟩
abbrev S16x384 : Shape := ⟨2, ![16, 384]⟩
abbrev S1x384 : Shape := ⟨2, ![1, 384]⟩
abbrev S17x384 : Shape := ⟨2, ![17, 384]⟩
abbrev S17x1152 : Shape := ⟨2, ![17, 1152]⟩
abbrev S49x1152 : Shape := ⟨2, ![49, 1152]⟩
abbrev S16x2304 : Shape := ⟨2, ![16, 2304]⟩
abbrev S32x132x16 : Shape := ⟨3, ![32, 132, 16]⟩
abbrev S1x128 : Shape := ⟨2, ![1, 128]⟩
abbrev S32x1x16 : Shape := ⟨3, ![32, 1, 16]⟩
abbrev S32x1320x384 : Shape := ⟨3, ![32, 1320, 384]⟩
abbrev S32x1x2 : Shape := ⟨3, ![32, 1, 2]⟩
abbrev S32x12x2 : Shape := ⟨3, ![32, 12, 2]⟩
abbrev S32x132x2 : Shape := ⟨3, ![32, 132, 2]⟩
abbrev S8x1x16 : Shape := ⟨3, ![8, 1, 16]⟩
abbrev S8x12x32 : Shape := ⟨3, ![8, 12, 32]⟩
abbrev S8x132x16 : Shape := ⟨3, ![8, 132, 16]⟩
abbrev S8x1320x384 : Shape := ⟨3, ![8, 1320, 384]⟩
abbrev S8x1x2 : Shape := ⟨3, ![8, 1, 2]⟩
abbrev S8x12x2 : Shape := ⟨3, ![8, 12, 2]⟩
abbrev S8x132x2 : Shape := ⟨3, ![8, 132, 2]⟩
abbrev S1x1x16 : Shape := ⟨3, ![1, 1, 16]⟩
abbrev S1x16 : Shape := ⟨2, ![1, 16]⟩
abbrev S1x12x32 : Shape := ⟨3, ![1, 12, 32]⟩
abbrev S12x32 : Shape := ⟨2, ![12, 32]⟩
abbrev S1x132x16 : Shape := ⟨3, ![1, 132, 16]⟩
abbrev S132x16 : Shape := ⟨2, ![132, 16]⟩
abbrev S12x1 : Shape := ⟨2, ![12, 1]⟩
abbrev S12x16 : Shape := ⟨2, ![12, 16]⟩
abbrev S12x49 : Shape := ⟨2, ![12, 49]⟩
abbrev S12x1152 : Shape := ⟨2, ![12, 1152]⟩
abbrev S12x384 : Shape := ⟨2, ![12, 384]⟩
abbrev S36x384 : Shape := ⟨2, ![36, 384]⟩
abbrev S132x2304 : Shape := ⟨2, ![132, 2304]⟩
abbrev S132x1152 : Shape := ⟨2, ![132, 1152]⟩
abbrev S264x384 : Shape := ⟨2, ![264, 384]⟩
abbrev S132x384 : Shape := ⟨2, ![132, 384]⟩
abbrev S11x384 : Shape := ⟨2, ![11, 384]⟩
abbrev S10x384 : Shape := ⟨2, ![10, 384]⟩
abbrev S9x384 : Shape := ⟨2, ![9, 384]⟩
abbrev S2x384 : Shape := ⟨2, ![2, 384]⟩
abbrev S8x384 : Shape := ⟨2, ![8, 384]⟩
abbrev S3x384 : Shape := ⟨2, ![3, 384]⟩
abbrev S7x384 : Shape := ⟨2, ![7, 384]⟩
abbrev S4x384 : Shape := ⟨2, ![4, 384]⟩
abbrev S6x384 : Shape := ⟨2, ![6, 384]⟩
abbrev S5x384 : Shape := ⟨2, ![5, 384]⟩
abbrev S110x384 : Shape := ⟨2, ![110, 384]⟩
abbrev S1x110x384 : Shape := ⟨3, ![1, 110, 384]⟩
abbrev S110x128 : Shape := ⟨2, ![110, 128]⟩
abbrev S128 : Shape := ⟨1, ![128]⟩
abbrev S10x128 : Shape := ⟨2, ![10, 128]⟩
abbrev S12x128 : Shape := ⟨2, ![12, 128]⟩
abbrev S132x128 : Shape := ⟨2, ![132, 128]⟩
abbrev S1x64 : Shape := ⟨2, ![1, 64]⟩
abbrev S1 : Shape := ⟨1, ![1]⟩
abbrev S1x1 : Shape := ⟨2, ![1, 1]⟩
abbrev S1x2 : Shape := ⟨2, ![1, 2]⟩
abbrev S1x1x2 : Shape := ⟨3, ![1, 1, 2]⟩
abbrev S12x64 : Shape := ⟨2, ![12, 64]⟩
abbrev S12 : Shape := ⟨1, ![12]⟩
abbrev S12x2 : Shape := ⟨2, ![12, 2]⟩
abbrev S1x12x2 : Shape := ⟨3, ![1, 12, 2]⟩
abbrev S132x64 : Shape := ⟨2, ![132, 64]⟩
abbrev S132 : Shape := ⟨1, ![132]⟩
abbrev S132x1 : Shape := ⟨2, ![132, 1]⟩
abbrev S132x2 : Shape := ⟨2, ![132, 2]⟩
abbrev S1x132x2 : Shape := ⟨3, ![1, 132, 2]⟩
abbrev S32x1320x6x64 : Shape := ⟨4, ![32, 1320, 6, 64]⟩
abbrev S32x12x11x2 : Shape := ⟨4, ![32, 12, 11, 2]⟩
abbrev S32x2 : Shape := ⟨2, ![32, 2]⟩

abbrev nBuf : Space → Nat
  | .hbm => 43
  | .vmem => 21
  | .smem => 0
  | _ => 0

abbrev bufTy : (tb : Table) → Fin (tcTables nBuf tb) → BufTy
  | .hbm, ⟨0, _⟩ => ⟨S32x16, .f32⟩
  | .hbm, ⟨1, _⟩ => ⟨S32x12x32, .f32⟩
  | .hbm, ⟨2, _⟩ => ⟨S32x12x11x16, .f32⟩
  | .hbm, ⟨3, _⟩ => ⟨S6x64x208, .f32⟩
  | .hbm, ⟨4, _⟩ => ⟨S6x64, .f32⟩
  | .hbm, ⟨5, _⟩ => ⟨S2x64, .f32⟩
  | .hbm, ⟨6, _⟩ => ⟨S2x64, .f32⟩
  | .hbm, ⟨7, _⟩ => ⟨S2x64, .f32⟩
  | .hbm, ⟨8, _⟩ => ⟨S132x132, .f32⟩
  | .hbm, ⟨9, _⟩ => ⟨S264x36, .f32⟩
  | .hbm, ⟨10, _⟩ => ⟨S208x6x64, .f32⟩
  | .hbm, ⟨11, _⟩ => ⟨S208x384, .f32⟩
  | .hbm, ⟨12, _⟩ => ⟨S32x384, .f32⟩
  | .hbm, ⟨13, _⟩ => ⟨S32x384, .f32⟩
  | .hbm, ⟨14, _⟩ => ⟨S32x384, .f32⟩
  | .hbm, ⟨15, _⟩ => ⟨S32x1152, .f32⟩
  | .hbm, ⟨16, _⟩ => ⟨S_, .f32⟩
  | .hbm, ⟨17, _⟩ => ⟨S17x768, .f32⟩
  | .hbm, ⟨18, _⟩ => ⟨S16x384, .f32⟩
  | .hbm, ⟨19, _⟩ => ⟨S1x384, .f32⟩
  | .hbm, ⟨20, _⟩ => ⟨S17x384, .f32⟩
  | .hbm, ⟨21, _⟩ => ⟨S17x1152, .f32⟩
  | .hbm, ⟨22, _⟩ => ⟨S49x1152, .f32⟩
  | .hbm, ⟨23, _⟩ => ⟨S16x384, .f32⟩
  | .hbm, ⟨24, _⟩ => ⟨S16x384, .f32⟩
  | .hbm, ⟨25, _⟩ => ⟨S16x384, .f32⟩
  | .hbm, ⟨26, _⟩ => ⟨S16x384, .f32⟩
  | .hbm, ⟨27, _⟩ => ⟨S16x384, .f32⟩
  | .hbm, ⟨28, _⟩ => ⟨S16x384, .f32⟩
  | .hbm, ⟨29, _⟩ => ⟨S16x2304, .f32⟩
  | .hbm, ⟨30, _⟩ => ⟨S32x132x16, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S32x1x16, .f32⟩
  | .hbm, ⟨35, _⟩ => ⟨S32x1320x384, .bf16⟩
  | .hbm, ⟨36, _⟩ => ⟨S32x1x2, .f32⟩
  | .hbm, ⟨37, _⟩ => ⟨S32x12x2, .f32⟩
  | .hbm, ⟨38, _⟩ => ⟨S32x132x2, .f32⟩
  | .hbm, ⟨39, _⟩ => ⟨S32x1320x6x64, .bf16⟩
  | .hbm, ⟨40, _⟩ => ⟨S32x1320x6x64, .f32⟩
  | .hbm, ⟨41, _⟩ => ⟨S32x12x11x2, .f32⟩
  | .hbm, ⟨42, _⟩ => ⟨S32x2, .f32⟩
  | .local _ .vmem, ⟨0, _⟩ => ⟨S8x1x16, .f32⟩
  | .local _ .vmem, ⟨1, _⟩ => ⟨S8x1x16, .f32⟩
  | .local _ .vmem, ⟨2, _⟩ => ⟨S8x12x32, .f32⟩
  | .local _ .vmem, ⟨3, _⟩ => ⟨S8x12x32, .f32⟩
  | .local _ .vmem, ⟨4, _⟩ => ⟨S8x132x16, .f32⟩
  | .local _ .vmem, ⟨5, _⟩ => ⟨S8x132x16, .f32⟩
  | .local _ .vmem, ⟨6, _⟩ => ⟨S49x1152, .f32⟩
  | .local _ .vmem, ⟨7, _⟩ => ⟨S16x2304, .f32⟩
  | .local _ .vmem, ⟨8, _⟩ => ⟨S132x132, .f32⟩
  | .local _ .vmem, ⟨9, _⟩ => ⟨S264x36, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S8x1320x384, .bf16⟩
  | .local _ .vmem, ⟨14, _⟩ => ⟨S8x1320x384, .bf16⟩
  | .local _ .vmem, ⟨15, _⟩ => ⟨S8x1x2, .f32⟩
  | .local _ .vmem, ⟨16, _⟩ => ⟨S8x1x2, .f32⟩
  | .local _ .vmem, ⟨17, _⟩ => ⟨S8x12x2, .f32⟩
  | .local _ .vmem, ⟨18, _⟩ => ⟨S8x12x2, .f32⟩
  | .local _ .vmem, ⟨19, _⟩ => ⟨S8x132x2, .f32⟩
  | .local _ .vmem, ⟨20, _⟩ => ⟨S8x132x2, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v24_2 : Ref sig .tc := ⟨.hbm, 37, rfl⟩
abbrev main_v24_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x12x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x132x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S49x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S132x132 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S264x36 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x1320x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x12x2 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x132x2 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S32x16 : Shape := ⟨2, ![32, 16]⟩
abbrev S32x12x32 : Shape := ⟨3, ![32, 12, 32]⟩
abbrev S32x12x11x16 : Shape := ⟨4, ![32, 12, 11, 16]⟩
abbrev S6x64x208 : Shape := ⟨3, ![6, 64, 208]⟩
abbrev S6x64 : Shape := ⟨2, ![6, 64]⟩
abbrev S2x64 : Shape := ⟨2, ![2, 64]⟩
abbrev S1320x3 : Shape := ⟨2, ![1320, 3]⟩
abbrev S1320x3x2 : Shape := ⟨3, ![1320, 3, 2]⟩
abbrev S32x1x16 : Shape := ⟨3, ![32, 1, 16]⟩
abbrev S32x1x1320x16 : Shape := ⟨4, ![32, 1, 1320, 16]⟩
abbrev S32x1320x16 : Shape := ⟨3, ![32, 1320, 16]⟩
abbrev S_ : Shape := ⟨0, ![]⟩
abbrev S1320x3x1 : Shape := ⟨3, ![1320, 3, 1]⟩
abbrev S1 : Shape := ⟨1, ![1]⟩
abbrev S1x1x1 : Shape := ⟨3, ![1, 1, 1]⟩
abbrev S32x1320x3x32 : Shape := ⟨4, ![32, 1320, 3, 32]⟩
abbrev S1320x3x2x1 : Shape := ⟨4, ![1320, 3, 2, 1]⟩
abbrev S1320x3x2x2 : Shape := ⟨4, ![1320, 3, 2, 2]⟩
abbrev S32x1320x3x2x16 : Shape := ⟨5, ![32, 1320, 3, 2, 16]⟩
abbrev S32x1320x96 : Shape := ⟨3, ![32, 1320, 96]⟩
abbrev S32x1320x208 : Shape := ⟨3, ![32, 1320, 208]⟩
abbrev S32x1320x6x64 : Shape := ⟨4, ![32, 1320, 6, 64]⟩
abbrev S1x1x6x64 : Shape := ⟨4, ![1, 1, 6, 64]⟩
abbrev S32x1320x2x64 : Shape := ⟨4, ![32, 1320, 2, 64]⟩
abbrev S32x2x64 : Shape := ⟨3, ![32, 2, 64]⟩
abbrev S32x12x110x2x64 : Shape := ⟨5, ![32, 12, 110, 2, 64]⟩
abbrev S32x12x2x64 : Shape := ⟨4, ![32, 12, 2, 64]⟩
abbrev S32x12x11x10x2x64 : Shape := ⟨6, ![32, 12, 11, 10, 2, 64]⟩
abbrev S32x12x11x2x64 : Shape := ⟨5, ![32, 12, 11, 2, 64]⟩
abbrev S2x32 : Shape := ⟨2, ![2, 32]⟩
abbrev S32x2 : Shape := ⟨2, ![32, 2]⟩
abbrev S2x32x12 : Shape := ⟨3, ![2, 32, 12]⟩
abbrev S32x12x2 : Shape := ⟨3, ![32, 12, 2]⟩
abbrev S2x32x12x11 : Shape := ⟨4, ![2, 32, 12, 11]⟩
abbrev S32x12x11x2 : Shape := ⟨4, ![32, 12, 11, 2]⟩

abbrev nBuf : Space → Nat
  | .hbm => 103
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S32x12x32, .f32⟩
  | .hbm, ⟨2, _⟩ => ⟨S32x12x11x16, .f32⟩
  | .hbm, ⟨3, _⟩ => ⟨S6x64x208, .f32⟩
  | .hbm, ⟨4, _⟩ => ⟨S6x64, .f32⟩
  | .hbm, ⟨5, _⟩ => ⟨S2x64, .f32⟩
  | .hbm, ⟨6, _⟩ => ⟨S2x64, .f32⟩
  | .hbm, ⟨7, _⟩ => ⟨S2x64, .f32⟩
  | .hbm, ⟨8, _⟩ => ⟨S1320x3, .i32⟩
  | .hbm, ⟨9, _⟩ => ⟨S1320x3x2, .i32⟩
  | .hbm, ⟨10, _⟩ => ⟨S1320x3x2, .i1⟩
  | .hbm, ⟨11, _⟩ => ⟨S1320x3x2, .i32⟩
  | .hbm, ⟨12, _⟩ => ⟨S1320x3x2, .i1⟩
  | .hbm, ⟨13, _⟩ => ⟨S32x1x16, .f32⟩
  | .hbm, ⟨14, _⟩ => ⟨S32x1x1320x16, .f32⟩
  | .hbm, ⟨15, _⟩ => ⟨S32x1320x16, .f32⟩
  | .hbm, ⟨16, _⟩ => ⟨S_, .i32⟩
  | .hbm, ⟨17, _⟩ => ⟨S1320x3, .i32⟩
  | .hbm, ⟨18, _⟩ => ⟨S1320x3, .i1⟩
  | .hbm, ⟨19, _⟩ => ⟨S_, .i32⟩
  | .hbm, ⟨20, _⟩ => ⟨S1320x3, .i32⟩
  | .hbm, ⟨21, _⟩ => ⟨S1320x3, .i32⟩
  | .hbm, ⟨22, _⟩ => ⟨S1320x3, .i32⟩
  | .hbm, ⟨23, _⟩ => ⟨S1320x3x1, .i32⟩
  | .hbm, ⟨24, _⟩ => ⟨S1, .i32⟩
  | .hbm, ⟨25, _⟩ => ⟨S_, .i32⟩
  | .hbm, ⟨26, _⟩ => ⟨S1320x3x1, .i32⟩
  | .hbm, ⟨27, _⟩ => ⟨S1320x3x1, .i1⟩
  | .hbm, ⟨28, _⟩ => ⟨S1x1x1, .i32⟩
  | .hbm, ⟨29, _⟩ => ⟨S1320x3x1, .i32⟩
  | .hbm, ⟨30, _⟩ => ⟨S1320x3x1, .i1⟩
  | .hbm, ⟨31, _⟩ => ⟨S1320x3x1, .i1⟩
  | .hbm, ⟨32, _⟩ => ⟨S_, .i1⟩
  | .hbm, ⟨33, _⟩ => ⟨S1320x3, .i1⟩
  | .hbm, ⟨34, _⟩ => ⟨S32x1320x3x32, .f32⟩
  | .hbm, ⟨35, _⟩ => ⟨S32x1320x3x32, .i1⟩
  | .hbm, ⟨36, _⟩ => ⟨S_, .f32⟩
  | .hbm, ⟨37, _⟩ => ⟨S32x1320x3x32, .f32⟩
  | .hbm, ⟨38, _⟩ => ⟨S32x1320x3x32, .f32⟩
  | .hbm, ⟨39, _⟩ => ⟨S_, .i32⟩
  | .hbm, ⟨40, _⟩ => ⟨S1320x3x2, .i32⟩
  | .hbm, ⟨41, _⟩ => ⟨S1320x3x2, .i32⟩
  | .hbm, ⟨42, _⟩ => ⟨S1320x3x2, .i32⟩
  | .hbm, ⟨43, _⟩ => ⟨S_, .i32⟩
  | .hbm, ⟨44, _⟩ => ⟨S1320x3x2, .i32⟩
  | .hbm, ⟨45, _⟩ => ⟨S1320x3x2, .i32⟩
  | .hbm, ⟨46, _⟩ => ⟨S1320x3x2, .i32⟩
  | .hbm, ⟨47, _⟩ => ⟨S1320x3x2x1, .i32⟩
  | .hbm, ⟨48, _⟩ => ⟨S1320x3x2x1, .i32⟩
  | .hbm, ⟨49, _⟩ => ⟨S1320x3x2x2, .i32⟩
  | .hbm, ⟨50, _⟩ => ⟨S32x1320x3x2x16, .f32⟩
  | .hbm, ⟨51, _⟩ => ⟨S32x1320x96, .f32⟩
  | .hbm, ⟨52, _⟩ => ⟨S32x1320x96, .f32⟩
  | .hbm, ⟨53, _⟩ => ⟨S32x1320x208, .f32⟩
  | .hbm, ⟨54, _⟩ => ⟨S32x1320x6x64, .f32⟩
  | .hbm, ⟨55, _⟩ => ⟨S1x1x6x64, .f32⟩
  | .hbm, ⟨56, _⟩ => ⟨S32x1320x6x64, .f32⟩
  | .hbm, ⟨57, _⟩ => ⟨S32x1320x6x64, .f32⟩
  | .hbm, ⟨58, _⟩ => ⟨S32x1320x6x64, .f32⟩
  | .hbm, ⟨59, _⟩ => ⟨S32x1320x2x64, .f32⟩
  | .hbm, ⟨60, _⟩ => ⟨S_, .f32⟩
  | .hbm, ⟨61, _⟩ => ⟨S32x2x64, .f32⟩
  | .hbm, ⟨62, _⟩ => ⟨S32x1320x2x64, .f32⟩
  | .hbm, ⟨63, _⟩ => ⟨S32x12x110x2x64, .f32⟩
  | .hbm, ⟨64, _⟩ => ⟨S_, .f32⟩
  | .hbm, ⟨65, _⟩ => ⟨S32x12x2x64, .f32⟩
  | .hbm, ⟨66, _⟩ => ⟨S32x1320x2x64, .f32⟩
  | .hbm, ⟨67, _⟩ => ⟨S32x12x11x10x2x64, .f32⟩
  | .hbm, ⟨68, _⟩ => ⟨S_, .f32⟩
  | .hbm, ⟨69, _⟩ => ⟨S32x12x11x2x64, .f32⟩
  | .hbm, ⟨70, _⟩ => ⟨S2x64, .f32⟩
  | .hbm, ⟨71, _⟩ => ⟨S2x64, .f32⟩
  | .hbm, ⟨72, _⟩ => ⟨S_, .f32⟩
  | .hbm, ⟨73, _⟩ => ⟨S2x64, .f32⟩
  | .hbm, ⟨74, _⟩ => ⟨S2x64, .f32⟩
  | .hbm, ⟨75, _⟩ => ⟨S_, .f32⟩
  | .hbm, ⟨76, _⟩ => ⟨S2x64, .f32⟩
  | .hbm, ⟨77, _⟩ => ⟨S2x64, .f32⟩
  | .hbm, ⟨78, _⟩ => ⟨S2x32, .f32⟩
  | .hbm, ⟨79, _⟩ => ⟨S32x2, .f32⟩
  | .hbm, ⟨80, _⟩ => ⟨S32x2, .f32⟩
  | .hbm, ⟨81, _⟩ => ⟨S2x64, .f32⟩
  | .hbm, ⟨82, _⟩ => ⟨S2x64, .f32⟩
  | .hbm, ⟨83, _⟩ => ⟨S_, .f32⟩
  | .hbm, ⟨84, _⟩ => ⟨S2x64, .f32⟩
  | .hbm, ⟨85, _⟩ => ⟨S2x64, .f32⟩
  | .hbm, ⟨86, _⟩ => ⟨S_, .f32⟩
  | .hbm, ⟨87, _⟩ => ⟨S2x64, .f32⟩
  | .hbm, ⟨88, _⟩ => ⟨S2x64, .f32⟩
  | .hbm, ⟨89, _⟩ => ⟨S2x32x12, .f32⟩
  | .hbm, ⟨90, _⟩ => ⟨S32x12x2, .f32⟩
  | .hbm, ⟨91, _⟩ => ⟨S32x12x2, .f32⟩
  | .hbm, ⟨92, _⟩ => ⟨S2x64, .f32⟩
  | .hbm, ⟨93, _⟩ => ⟨S2x64, .f32⟩
  | .hbm, ⟨94, _⟩ => ⟨S_, .f32⟩
  | .hbm, ⟨95, _⟩ => ⟨S2x64, .f32⟩
  | .hbm, ⟨96, _⟩ => ⟨S2x64, .f32⟩
  | .hbm, ⟨97, _⟩ => ⟨S_, .f32⟩
  | .hbm, ⟨98, _⟩ => ⟨S2x64, .f32⟩
  | .hbm, ⟨99, _⟩ => ⟨S2x64, .f32⟩
  | .hbm, ⟨100, _⟩ => ⟨S2x32x12x11, .f32⟩
  | .hbm, ⟨101, _⟩ => ⟨S32x12x11x2, .f32⟩
  | .hbm, ⟨102, _⟩ => ⟨S32x12x11x2, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_c_3 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v3 : Ref sig .tc := ⟨.hbm, 38, rfl⟩
abbrev main_c_4 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_c_5 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_6 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_7 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_8 : Ref sig .tc := ⟨.hbm, 72, rfl⟩
abbrev main_v32 : Ref sig .tc := ⟨.hbm, 73, rfl⟩
abbrev main_v33 : Ref sig .tc := ⟨.hbm, 74, rfl⟩
abbrev main_cst_9 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_cst_10 : Ref sig .tc := ⟨.hbm, 83, rfl⟩
abbrev main_v41 : Ref sig .tc := ⟨.hbm, 84, rfl⟩
abbrev main_v42 : Ref sig .tc := ⟨.hbm, 85, rfl⟩
abbrev main_cst_11 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_12 : Ref sig .tc := ⟨.hbm, 94, rfl⟩
abbrev main_v50 : Ref sig .tc := ⟨.hbm, 95, rfl⟩
abbrev main_v51 : Ref sig .tc := ⟨.hbm, 96, rfl⟩
abbrev main_cst_13 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩

abbrev nD : Nat := 1
abbrev τ : Topo := Topo.v7x

variable {F : FTy → Type} [FloatOps F]
-- ==== Proof.Dnf.lean ====
/- The kernel's body written once for every batch row, object and rank: what the printed program stores at each of its
   store sites is one of these functions at a literal row, object and rank. -/
module

public import proofs.«01_k».proof.Proof.Gen.KernelIdeal.Frame

@[expose] public section

set_option maxRecDepth 16384

noncomputable section

namespace Cert.Dnf

open Idealize.ShloMosaic Cert.KernelIdeal Cert.KernelIdeal.Gen

variable {F : FTy → Type} [FloatOps F]

/-! ## The loads of a batch row -/

/-- One batch row of the nullary block lies inside it. -/
theorem inb_nul (b : Fin 8) : ∀ a, (![b.val, 0, 0] : Fin 3 → Nat) a + S1x1x16.size a ≤ S8x1x16.size a := by
  revert b; decide

/-- One batch row of the unary block lies inside it. -/
theorem inb_una (b : Fin 8) : ∀ a, (![b.val, 0, 0] : Fin 3 → Nat) a + S1x12x32.size a ≤ S8x12x32.size a := by
  revert b; decide

/-- One batch row of the binary block lies inside it. -/
theorem inb_bin (b : Fin 8) : ∀ a, (![b.val, 0, 0] : Fin 3 → Nat) a + S1x132x16.size a ≤ S8x132x16.size a := by
  revert b; decide

/-- Batch row `b` of the nullary block. -/
def nul (x0 : Vec F S8x1x16 .f32) (b : Fin 8) : FVec F S1x16 .f32 :=
  shapeCast S1x16 (View.ld x0 (Rect.unit (s := S8x1x16) ![b.val, 0, 0] S1x1x16.size (inb_nul b)) : Vec F S1x1x16 .f32) shapeCasts_S1x1x16_S1x16

/-- Batch row `b` of the unary block. -/
def una (x1 : Vec F S8x12x32 .f32) (b : Fin 8) : FVec F S12x32 .f32 :=
  shapeCast S12x32 (View.ld x1 (Rect.unit (s := S8x12x32) ![b.val, 0, 0] S1x12x32.size (inb_una b)) : Vec F S1x12x32 .f32) shapeCasts_S1x12x32_S12x32

/-- Batch row `b` of the binary block. -/
def bin (x2 : Vec F S8x132x16 .f32) (b : Fin 8) : FVec F S132x16 .f32 :=
  shapeCast S132x16 (View.ld x2 (Rect.unit (s := S8x132x16) ![b.val, 0, 0] S1x132x16.size (inb_bin b)) : Vec F S1x132x16 .f32) shapeCasts_S1x132x16_S132x16

/-! ## The projections of a batch row -/

/-- The binary facts times the stacked binary weights. -/
def bcat (x4 : Vec F S16x2304 .f32) (b : FVec F S132x16 .f32) : FVec F S132x2304 .f32 :=
  matmul dot_S132x16_S16x2304_S132x2304_1_0_0_1_n_n none b
    (shapeCast S16x2304 (View.ld x4 r0_1 : Vec F S16x2304 .f32) shapeCasts_S16x2304_S16x2304 : FVec F S16x2304 .f32) (constant S132x2304 .f32 0x00000000#32)

/-- The three sums of a projection and a permuted projection of the binary facts, side by side. -/
def abc (x4 : Vec F S16x2304 .f32) (x5 : Vec F S132x132 .f32) (b : FVec F S132x16 .f32) : FVec F S132x1152 .f32 :=
  addf (extractStridedSlice S132x1152 ![0, 0] (bcat x4 b) slices_S132x2304_o0_0_S132x1152)
    (matmul dot_S132x132_S132x1152_S132x1152_1_0_0_1_n_n none (View.ld x5 r0_2 : Vec F S132x132 .f32)
      (extractStridedSlice S132x1152 ![0, 1152] (bcat x4 b) slices_S132x2304_o0_1152_S132x1152) (constant S132x1152 .f32 0x00000000#32))

/-- The unary facts beside the nullary facts and a one. -/
def aug (n : FVec F S1x16 .f32) (u : FVec F S12x32 .f32) : FVec F S12x49 .f32 :=
  concatenate S12x49 1 [⟨S12x32, u⟩,
    ⟨S12x16, broadcastTo S12x16 (shapeCast S1x16 n shapeCasts_S1x16_S1x16) broadcasts_S1x16_S12x16⟩,
    ⟨S12x1, (broadcast S12x1 (Scalar.ofBits .f32 0x3F800000#32) : FVec F S12x1 .f32)⟩] concatenates_S12x32_S12x16_S12x1_S12x49_d1

/-- The augmented unary facts times the stacked unary weights. -/
def ucat (x3 : Vec F S49x1152 .f32) (n : FVec F S1x16 .f32) (u : FVec F S12x32 .f32) : FVec F S12x1152 .f32 :=
  matmul dot_S12x49_S49x1152_S12x1152_1_0_0_1_n_n none (aug n u)
    (shapeCast S49x1152 (View.ld x3 r0_0 : Vec F S49x1152 .f32) shapeCasts_S49x1152_S49x1152 : FVec F S49x1152 .f32) (constant S12x1152 .f32 0x00000000#32)

/-- The three unary projections stacked. -/
def ustack (x3 : Vec F S49x1152 .f32) (n : FVec F S1x16 .f32) (u : FVec F S12x32 .f32) : FVec F S36x384 .f32 :=
  concatenate S36x384 0 [⟨S12x384, extractStridedSlice S12x384 ![0, 0] (ucat x3 n u) slices_S12x1152_o0_0_S12x384⟩,
    ⟨S12x384, extractStridedSlice S12x384 ![0, 384] (ucat x3 n u) slices_S12x1152_o0_384_S12x384⟩,
    ⟨S12x384, extractStridedSlice S12x384 ![0, 768] (ucat x3 n u) slices_S12x1152_o0_768_S12x384⟩] concatenates_S12x384_S12x384_S12x384_S36x384_d0

/-- The rows of the stack each pair of objects selects, summed. -/
def yall (x3 : Vec F S49x1152 .f32) (x6 : Vec F S264x36 .f32) (n : FVec F S1x16 .f32) (u : FVec F S12x32 .f32) : FVec F S264x384 .f32 :=
  matmul dot_S264x36_S36x384_S264x384_1_0_0_1_n_n none (View.ld x6 r0_3 : Vec F S264x36 .f32) (ustack x3 n u) (constant S264x384 .f32 0x00000000#32)

/-- The part of the pre-activation the first two objects fix. -/
def gaAll (x0 : Vec F S8x1x16 .f32) (x1 : Vec F S8x12x32 .f32) (x2 : Vec F S8x132x16 .f32) (x3 : Vec F S49x1152 .f32)
    (x4 : Vec F S16x2304 .f32) (x5 : Vec F S132x132 .f32) (x6 : Vec F S264x36 .f32) (b : Fin 8) : FVec F S132x384 .f32 :=
  addf (extractStridedSlice S132x384 ![0, 0] (yall x3 x6 (nul x0 b) (una x1 b)) slices_S264x384_o0_0_S132x384)
    (extractStridedSlice S132x384 ![0, 0] (abc x4 x5 (bin x2 b)) slices_S132x1152_o0_0_S132x384)

/-- The part the first and the third object fix. -/
def hAll (x0 : Vec F S8x1x16 .f32) (x1 : Vec F S8x12x32 .f32) (x2 : Vec F S8x132x16 .f32) (x3 : Vec F S49x1152 .f32)
    (x4 : Vec F S16x2304 .f32) (x5 : Vec F S132x132 .f32) (x6 : Vec F S264x36 .f32) (b : Fin 8) : FVec F S132x384 .f32 :=
  addf (extractStridedSlice S132x384 ![132, 0] (yall x3 x6 (nul x0 b) (una x1 b)) slices_S264x384_o132_0_S132x384)
    (extractStridedSlice S132x384 ![0, 384] (abc x4 x5 (bin x2 b)) slices_S132x1152_o0_384_S132x384)

/-- The part the second and the third object fix. -/
def cAll (x2 : Vec F S8x132x16 .f32) (x4 : Vec F S16x2304 .f32) (x5 : Vec F S132x132 .f32) (b : Fin 8) : FVec F S132x384 .f32 :=
  extractStridedSlice S132x384 ![0, 768] (abc x4 x5 (bin x2 b)) slices_S132x1152_o0_768_S132x384

/-! ## The tile of one first object -/

/-- The object of rank `r` among the others than `o`. -/
def skip (o : Fin 12) (r : Fin 11) : Fin 12 := ⟨if r.val < o.val then r.val else r.val + 1, by split <;> omega⟩

/-- The rank of `o` among the others than `skip o r`. -/
def rank (o : Fin 12) (r : Fin 11) : Fin 11 := ⟨if r.val < o.val then o.val - 1 else o.val, by split <;> omega⟩

/-- The eleven rows of an object lie inside the 132. -/
theorem slices_grp (o : Fin 12) : S132x384.Slices ![11 * o.val, 0] S11x384 := by revert o; decide
/-- One row of eleven. -/
theorem slices_row (r : Fin 11) : S11x384.Slices ![r.val, 0] S1x384 := by revert r; decide
/-- The rows before the row dropped. -/
theorem slices_lo (r : Fin 11) : S11x384.Slices ![0, 0] ⟨2, ![r.val, 384]⟩ := by revert r; decide
/-- The rows after the row dropped. -/
theorem slices_hi (r : Fin 11) : S11x384.Slices ![r.val + 1, 0] ⟨2, ![10 - r.val, 384]⟩ := by revert r; decide
/-- The rows before and after the row dropped make ten rows. -/
theorem concatenates_drop (r : Fin 11) : Shape.Concatenates [⟨2, ![r.val, 384]⟩, ⟨2, ![10 - r.val, 384]⟩] S10x384 0 := by revert r; decide

/-- The eleven rows of object `o`. -/
def grp (v : FVec F S132x384 .f32) (o : Fin 12) : FVec F S11x384 .f32 := extractStridedSlice S11x384 ![11 * o.val, 0] v (slices_grp o)

/-- Eleven rows without row `r`. -/
def drop (v : FVec F S11x384 .f32) (r : Fin 11) : FVec F S10x384 .f32 :=
  if r.val = 0 then extractStridedSlice S10x384 ![1, 0] v slices_S11x384_o1_0_S10x384
  else if r.val = 10 then extractStridedSlice S10x384 ![0, 0] v slices_S11x384_o0_0_S10x384
  else concatenate S10x384 0 [⟨⟨2, ![r.val, 384]⟩, extractStridedSlice ⟨2, ![r.val, 384]⟩ ![0, 0] v (slices_lo r)⟩,
    ⟨⟨2, ![10 - r.val, 384]⟩, extractStridedSlice ⟨2, ![10 - r.val, 384]⟩ ![r.val + 1, 0] v (slices_hi r)⟩] (concatenates_drop r)

/-- The ten rows of first object `o` and second object of rank `r`. -/
def blk (ga h c : FVec F S132x384 .f32) (o : Fin 12) (r : Fin 11) : FVec F S10x384 .f32 :=
  addf (addf (broadcastTo S10x384 (extractStridedSlice S1x384 ![r.val, 0] (grp ga o) (slices_row r)) broadcasts_S1x384_S10x384)
    (drop (grp h o) r)) (drop (grp c (skip o r)) (rank o r))

/-- The hundred and ten rows of first object `o`. -/
def tile (ga h c : FVec F S132x384 .f32) (o : Fin 12) : FVec F S110x384 .f32 :=
  tanh (concatenate S110x384 0 (List.ofFn fun r : Fin 11 => (⟨S10x384, blk ga h c o r⟩ : (s : Shape) × (s.Idx → F .f32)))
    concatenates_S10x384_S10x384_S10x384_S10x384_S10x384_S10x384_S10x384_S10x384_S10x384_S10x384_S10x384_S110x384_d0)

/-- The stored tile. -/
def conv (t : FVec F S110x384 .f32) : FVec F S1x110x384 .bf16 :=
  shapeCast S1x110x384 (truncf .bf16 t bitsLt_bf16_f32) shapeCasts_S110x384_S1x110x384

/-! ## The maxima of a tile -/

/-- The greatest row of the nullary columns. -/
def nmax (t : FVec F S110x384 .f32) : FVec F S1x128 .f32 :=
  shapeCast S1x128 (multiReduction .maximumf [0] S128 (extractStridedSlice S110x128 ![0, 0] t slices_S110x384_o0_0_S110x128)
    0xFF800000#32 reduces_S110x128_S128 (.inl rfl) rfl) shapeCasts_S128_S1x128

/-- The greatest row of the unary columns. -/
def umax (t : FVec F S110x384 .f32) : FVec F S1x128 .f32 :=
  shapeCast S1x128 (multiReduction .maximumf [0] S128 (extractStridedSlice S110x128 ![0, 128] t slices_S110x384_o0_128_S110x128)
    0xFF800000#32 reduces_S110x128_S128 (.inl rfl) rfl) shapeCasts_S128_S1x128

/-- The ten rows of rank `r` lie inside the tile. -/
theorem slices_bmax (r : Fin 11) : S110x384.Slices ![10 * r.val, 256] S10x128 := by revert r; decide

/-- The greatest of the ten rows of rank `r` of the binary columns. -/
def bmax (t : FVec F S110x384 .f32) (r : Fin 11) : FVec F S1x128 .f32 :=
  shapeCast S1x128 (multiReduction .maximumf [0] S128 (extractStridedSlice S10x128 ![10 * r.val, 256] t (slices_bmax r))
    0xFF800000#32 reduces_S10x128_S128 (.inl rfl) rfl) shapeCasts_S128_S1x128

/-- The maximum of the nullary maxima of the first objects up to `n`. -/
def chain (T : Fin 12 → FVec F S110x384 .f32) : Nat → FVec F S1x128 .f32
  | 0 => nmax (T 0)
  | n + 1 => maximumf (chain T n) (nmax (T (Fin.ofNat 12 (n + 1))))

/-! ## The disjunctions -/

/-- The nullary disjunction of a batch row. -/
def outn (x7 : Vec F S1x128 .f32) (T : Fin 12 → FVec F S110x384 .f32) : FVec F S1x1x2 .f32 :=
  let p : FVec F S1x128 .f32 := mulf (chain T 11) (logistic (shapeCast S1x128 (View.ld x7 r0_19 : Vec F S1x128 .f32) shapeCasts_S1x128_S1x128))
  shapeCast S1x1x2 (tanh (concatenate S1x2 1
    [⟨S1x1, shapeCast S1x1 (multiReduction .add [1] S1 (extractStridedSlice S1x64 ![0, 0] p slices_S1x128_o0_0_S1x64) 0x00000000#32 reduces_S1x64_S1 (.inl rfl) rfl) shapeCasts_S1_S1x1⟩,
     ⟨S1x1, shapeCast S1x1 (multiReduction .add [1] S1 (extractStridedSlice S1x64 ![0, 64] p slices_S1x128_o0_64_S1x64) 0x00000000#32 reduces_S1x64_S1 (.inl rfl) rfl) shapeCasts_S1_S1x1⟩]
    concatenates_S1x1_S1x1_S1x2_d1)) shapeCasts_S1x2_S1x1x2

/-- Twelve rows of one stack. -/
theorem concatenates_ustk (f : Fin 12 → FVec F S1x128 .f32) : Shape.Concatenates
    ((List.ofFn fun n : Fin 12 => (⟨S1x128, f n⟩ : (s : Shape) × (s.Idx → F .f32))).map (·.1)) S12x128 0 := by
  rw [show (List.ofFn fun n : Fin 12 => (⟨S1x128, f n⟩ : (s : Shape) × (s.Idx → F .f32))).map (·.1) = List.replicate 12 S1x128 from by
    rw [List.map_ofFn]; exact List.ofFn_const 12 S1x128]
  decide

/-- The unary maxima of the twelve first objects, stacked. -/
def ustk (T : Fin 12 → FVec F S110x384 .f32) : FVec F S12x128 .f32 :=
  concatenate S12x128 0 (List.ofFn fun o : Fin 12 => (⟨S1x128, umax (T o)⟩ : (s : Shape) × (s.Idx → F .f32))) (concatenates_ustk fun o => umax (T o))

/-- The unary disjunction of a batch row. -/
def outu (x8 : Vec F S1x128 .f32) (T : Fin 12 → FVec F S110x384 .f32) : FVec F S1x12x2 .f32 :=
  let p : FVec F S12x128 .f32 := mulf (ustk T)
    (broadcastTo S12x128 (logistic (shapeCast S1x128 (View.ld x8 r0_19 : Vec F S1x128 .f32) shapeCasts_S1x128_S1x128)) broadcasts_S1x128_S12x128)
  shapeCast S1x12x2 (tanh (concatenate S12x2 1
    [⟨S12x1, shapeCast S12x1 (multiReduction .add [1] S12 (extractStridedSlice S12x64 ![0, 0] p slices_S12x128_o0_0_S12x64) 0x00000000#32 reduces_S12x64_S12 (.inl rfl) rfl) shapeCasts_S12_S12x1⟩,
     ⟨S12x1, shapeCast S12x1 (multiReduction .add [1] S12 (extractStridedSlice S12x64 ![0, 64] p slices_S12x128_o0_64_S12x64) 0x00000000#32 reduces_S12x64_S12 (.inl rfl) rfl) shapeCasts_S12_S12x1⟩]
    concatenates_S12x1_S12x1_S12x2_d1)) shapeCasts_S12x2_S1x12x2

/-- The first object of a pair's row. -/
def pairO (n : Fin 132) : Fin 12 := ⟨n.val / 11, by omega⟩
/-- The rank of the second object of a pair's row. -/
def pairR (n : Fin 132) : Fin 11 := ⟨n.val % 11, by omega⟩

/-- One hundred and thirty-two rows of one stack. -/
theorem concatenates_bstk (f : Fin 132 → FVec F S1x128 .f32) : Shape.Concatenates
    ((List.ofFn fun n : Fin 132 => (⟨S1x128, f n⟩ : (s : Shape) × (s.Idx → F .f32))).map (·.1)) S132x128 0 := by
  rw [show (List.ofFn fun n : Fin 132 => (⟨S1x128, f n⟩ : (s : Shape) × (s.Idx → F .f32))).map (·.1) = List.replicate 132 S1x128 from by
    rw [List.map_ofFn]; exact List.ofFn_const 132 S1x128]
  decide

/-- The binary maxima of the pairs of objects, stacked. -/
def bstk (T : Fin 12 → FVec F S110x384 .f32) : FVec F S132x128 .f32 :=
  concatenate S132x128 0 (List.ofFn fun n : Fin 132 => (⟨S1x128, bmax (T (pairO n)) (pairR n)⟩ : (s : Shape) × (s.Idx → F .f32)))
    (concatenates_bstk fun n => bmax (T (pairO n)) (pairR n))

/-- The binary disjunction of a batch row. -/
def outb (x9 : Vec F S1x128 .f32) (T : Fin 12 → FVec F S110x384 .f32) : FVec F S1x132x2 .f32 :=
  let p : FVec F S132x128 .f32 := mulf (bstk T)
    (broadcastTo S132x128 (logistic (shapeCast S1x128 (View.ld x9 r0_19 : Vec F S1x128 .f32) shapeCasts_S1x128_S1x128)) broadcasts_S1x128_S132x128)
  shapeCast S1x132x2 (tanh (concatenate S132x2 1
    [⟨S132x1, shapeCast S132x1 (multiReduction .add [1] S132 (extractStridedSlice S132x64 ![0, 0] p slices_S132x128_o0_0_S132x64) 0x00000000#32 reduces_S132x64_S132 (.inl rfl) rfl) shapeCasts_S132_S132x1⟩,
     ⟨S132x1, shapeCast S132x1 (multiReduction .add [1] S132 (extractStridedSlice S132x64 ![0, 64] p slices_S132x128_o0_64_S132x64) 0x00000000#32 reduces_S132x64_S132 (.inl rfl) rfl) shapeCasts_S132_S132x1⟩]
    concatenates_S132x1_S132x1_S132x2_d1)) shapeCasts_S132x2_S1x132x2

/-- The tiles of batch row `b`, of the blocks the kernel reads. -/
def tiles (x0 : Vec F S8x1x16 .f32) (x1 : Vec F S8x12x32 .f32) (x2 : Vec F S8x132x16 .f32) (x3 : Vec F S49x1152 .f32)
    (x4 : Vec F S16x2304 .f32) (x5 : Vec F S132x132 .f32) (x6 : Vec F S264x36 .f32) (b : Fin 8) (o : Fin 12) : FVec F S110x384 .f32 :=
  tile (gaAll x0 x1 x2 x3 x4 x5 x6 b) (hAll x0 x1 x2 x3 x4 x5 x6 b) (cAll x2 x4 x5 b) o

end Cert.Dnf

end

end
-- ==== Proof.KRead.lean ====
/- The kernel's body read at an index over the extended reals. -/
module

public import proofs.«01_k».proof.Proof.Dnf
public import Idealize.ShloMosaic.Lib.Pipeline.ValueKit
public import Idealize.ShloMosaic.Lib.Pointwise

@[expose] public section

set_option maxRecDepth 16384

noncomputable section

namespace Cert.Dnf

open Idealize.ShloMosaic Cert.KernelIdeal Cert.KernelIdeal.Gen

/-- The nullary facts of a batch row. -/
theorem nul_apply (x0 : Vec Ideal S8x1x16 .f32) (b : Fin 8) (i : Fin 1) (d : Fin 16) :
    nul (F := Ideal) x0 b (ix2 i d) = x0 (ix3 b (0 : Fin 1) d) := by
  pointwise [nul]

/-- A leading unit axis dropped, at the unary facts' shape. -/
theorem cast_una (v : FVec Ideal S1x12x32 .f32) (o : Fin 12) (d : Fin 32) :
    (shapeCast S12x32 v shapeCasts_S1x12x32_S12x32) (ix2 o d) = v (ix3 (0 : Fin 1) o d) := by
  pointwise []

/-- A leading unit axis dropped, at the binary facts' shape. -/
theorem cast_bin (v : FVec Ideal S1x132x16 .f32) (p : Fin 132) (d : Fin 16) :
    (shapeCast S132x16 v shapeCasts_S1x132x16_S132x16) (ix2 p d) = v (ix3 (0 : Fin 1) p d) := by
  pointwise []

/-- The unary facts of a batch row. -/
theorem una_apply (x1 : Vec Ideal S8x12x32 .f32) (b : Fin 8) (o : Fin 12) (d : Fin 32) :
    una (F := Ideal) x1 b (ix2 o d) = x1 (ix3 b o d) := by
  refine (cast_una _ o d).trans (congrArg x1 ?_)
  funext a
  apply Fin.ext
  fin_cases a <;> show _ + 1 * _ = _ <;> simp

/-- The binary facts of a batch row. -/
theorem bin_apply (x2 : Vec Ideal S8x132x16 .f32) (b : Fin 8) (p : Fin 132) (d : Fin 16) :
    bin (F := Ideal) x2 b (ix2 p d) = x2 (ix3 b p d) := by
  refine (cast_bin _ p d).trans (congrArg x2 ?_)
  funext a
  apply Fin.ext
  fin_cases a <;> show _ + 1 * _ = _ <;> simp

/-- A binary projection. -/
theorem bcat_apply (x4 : Vec Ideal S16x2304 .f32) (b : FVec Ideal S132x16 .f32) (p : Fin 132) (c : Fin 2304) :
    bcat (F := Ideal) x4 b (ix2 p c) = ∑ d : Fin 16, b (ix2 p d) * x4 (ix2 d c) := by
  pointwise [bcat]

/-- A projection and a permuted projection. -/
theorem abc_apply (x4 : Vec Ideal S16x2304 .f32) (x5 : Vec Ideal S132x132 .f32) (b : FVec Ideal S132x16 .f32) (p : Fin 132) (c : Fin 1152) :
    abc (F := Ideal) x4 x5 b (ix2 p c) = bcat (F := Ideal) x4 b (ix2 p (⟨c.val, by omega⟩ : Fin 2304))
      + ∑ q : Fin 132, x5 (ix2 p q) * bcat (F := Ideal) x4 b (ix2 q (⟨1152 + c.val, by omega⟩ : Fin 2304)) := by
  pointwise [abc]

/-- The selected unary projections. -/
theorem yall_apply (x3 : Vec Ideal S49x1152 .f32) (x6 : Vec Ideal S264x36 .f32) (n : FVec Ideal S1x16 .f32) (u : FVec Ideal S12x32 .f32) (p : Fin 264) (c : Fin 384) :
    yall (F := Ideal) x3 x6 n u (ix2 p c) = ∑ j : Fin 36, x6 (ix2 p j) * ustack (F := Ideal) x3 n u (ix2 j c) := by
  pointwise [yall]

/-- An augmented unary projection. -/
theorem ucat_apply (x3 : Vec Ideal S49x1152 .f32) (n : FVec Ideal S1x16 .f32) (u : FVec Ideal S12x32 .f32) (o : Fin 12) (c : Fin 1152) :
    ucat (F := Ideal) x3 n u (ix2 o c) = ∑ j : Fin 49, aug (F := Ideal) n u (ix2 o j) * x3 (ix2 j c) := by
  pointwise [ucat]

/-- The three unary projections stacked. -/
theorem ustack_apply (x3 : Vec Ideal S49x1152 .f32) (n : FVec Ideal S1x16 .f32) (u : FVec Ideal S12x32 .f32) (j : Fin 36) (c : Fin 384) :
    ustack (F := Ideal) x3 n u (ix2 j c) = ucat (F := Ideal) x3 n u (ix2 (⟨j.val % 12, by omega⟩ : Fin 12) (⟨384 * (j.val / 12) + c.val, by omega⟩ : Fin 1152)) := by
  have hj := j.isLt
  pointwise [ustack]
  split
  · congr 2 <;> apply Fin.ext <;> simp only [] <;> omega
  · split
    · congr 2 <;> apply Fin.ext <;> simp only [] <;> omega
    · congr 2 <;> apply Fin.ext <;> simp only [] <;> omega

/-- The unary facts, the nullary facts and a one. -/
theorem aug_apply (n : FVec Ideal S1x16 .f32) (u : FVec Ideal S12x32 .f32) (o : Fin 12) (j : Fin 49) :
    aug (F := Ideal) n u (ix2 o j) = if h : j.val < 32 then u (ix2 o (⟨j.val, h⟩ : Fin 32)) else
      if h' : j.val < 48 then n (ix2 (0 : Fin 1) (⟨j.val - 32, by omega⟩ : Fin 16)) else 1 := by
  pointwise [aug]
  split
  · rfl
  · by_cases h : j.val < 48
    · rw [dif_pos (by omega), dif_pos h]
    · rw [dif_neg (by omega), dif_neg h]

/-- The rank `k` of those left, `r` left out. -/
def skipR (r : Fin 11) (k : Fin 10) : Fin 11 := ⟨if k.val < r.val then k.val else k.val + 1, by split <;> omega⟩

/-- Eleven rows without row `r`, read at a row. -/
theorem drop_apply (v : FVec Ideal S11x384 .f32) (r : Fin 11) (k : Fin 10) (l : Fin 384) :
    drop (F := Ideal) v r (ix2 k l) = v (ix2 (skipR r k) l) := by
  have hr := r.isLt
  have hk := k.isLt
  unfold drop skipR
  split
  · pointwise []
    congr 2
    apply Fin.ext
    show 1 + k.val = if _ then _ else _
    rw [if_neg (by omega)]; omega
  · split
    · pointwise []
      congr 2
      apply Fin.ext
      show k.val = if _ then _ else _
      rw [if_pos (by omega)]
    · pointwise []
      by_cases h : k.val < r.val
      · rw [dif_pos h]
        congr 2
        apply Fin.ext
        show k.val = if _ then _ else _
        rw [if_pos h]
      · rw [dif_neg h]
        congr 2
        apply Fin.ext
        show r.val + 1 + (k.val - r.val) = if _ then _ else _
        rw [if_neg h]; omega

/-- The rows of an object. -/
theorem grp_apply (v : FVec Ideal S132x384 .f32) (o : Fin 12) (r : Fin 11) (l : Fin 384) :
    grp (F := Ideal) v o (ix2 r l) = v (ix2 (⟨11 * o.val + r.val, by omega⟩ : Fin 132) l) := by
  pointwise [grp]

/-- The rows of a first and a second object. -/
theorem blk_apply (ga h c : FVec Ideal S132x384 .f32) (o : Fin 12) (r : Fin 11) (k : Fin 10) (l : Fin 384) :
    blk (F := Ideal) ga h c o r (ix2 k l) = ga (ix2 (⟨11 * o.val + r.val, by omega⟩ : Fin 132) l)
      + h (ix2 (⟨11 * o.val + (skipR r k).val, by omega⟩ : Fin 132) l)
      + c (ix2 (⟨11 * (skip o r).val + (skipR (rank o r) k).val, by omega⟩ : Fin 132) l) := by
  have e1 := drop_apply (grp (F := Ideal) h o) r k l
  have e2 := drop_apply (grp (F := Ideal) c (skip o r)) (rank o r) k l
  rw [grp_apply] at e1 e2
  rw [← e1, ← e2]
  unfold blk
  pointwise []
  rw [grp_apply]

/-- The rows of a first object, before the hyperbolic tangent's argument is spelled out. -/
theorem tile_apply (ga h c : FVec Ideal S132x384 .f32) (o : Fin 12) (r : Fin 11) (k : Fin 10) (l : Fin 384) :
    tile (F := Ideal) ga h c o (ix2 (⟨10 * r.val + k.val, by omega⟩ : Fin 110) l) = Ideal.tanh (blk (F := Ideal) ga h c o r (ix2 k l)) := by
  unfold tile
  refine congrArg Ideal.tanh ?_
  refine concatenate_ofFn_apply (t := S110x384) (s₁ := S10x384) (0 : Fin 2) (fun r => blk (F := Ideal) ga h c o r) _ rfl 10 rfl _ r ?_ (ix2 k l) ?_ ?_
  · show (10 * r.val + k.val) / 10 = r.val
    omega
  · show k.val = (10 * r.val + k.val) % 10
    omega
  · intro b hb
    fin_cases b
    · exact absurd rfl hb
    · rfl

/-- The bits of minus infinity. -/
theorem ofBits_neg_inf : Ideal.ofBits .f32 0xFF800000#32 = (⊥ : EReal) := by
  simp [Ideal.ofBits, Ideal.ieee]

/-- The greatest row of the nullary columns. -/
theorem nmax_apply (t : FVec Ideal S110x384 .f32) (l : Fin 128) :
    nmax (F := Ideal) t (ix2 (0 : Fin 1) l) = Finset.univ.sup fun j : Fin 110 => (t (ix2 j (⟨l.val, by omega⟩ : Fin 384)) : EReal) := by
  pointwise [nmax]
  rw [ofBits_neg_inf]
  rfl

/-- The greatest row of the unary columns. -/
theorem umax_apply (t : FVec Ideal S110x384 .f32) (l : Fin 128) :
    umax (F := Ideal) t (ix2 (0 : Fin 1) l) = Finset.univ.sup fun j : Fin 110 => (t (ix2 j (⟨128 + l.val, by omega⟩ : Fin 384)) : EReal) := by
  pointwise [umax]
  rw [ofBits_neg_inf]
  rfl

/-- The greatest of ten rows of the binary columns. -/
theorem bmax_apply (t : FVec Ideal S110x384 .f32) (r : Fin 11) (l : Fin 128) :
    bmax (F := Ideal) t r (ix2 (0 : Fin 1) l) = Finset.univ.sup fun k : Fin 10 => (t (ix2 (⟨10 * r.val + k.val, by omega⟩ : Fin 110) (⟨256 + l.val, by omega⟩ : Fin 384)) : EReal) := by
  pointwise [bmax]
  rw [ofBits_neg_inf]
  rfl

/-- The nullary disjunction. -/
theorem outn_apply (x7 : Vec Ideal S1x128 .f32) (T : Fin 12 → FVec Ideal S110x384 .f32) (i : Fin 2) :
    outn (F := Ideal) x7 T (ix3 (0 : Fin 1) (0 : Fin 1) i) = Ideal.tanh (∑ c : Fin 64,
      chain (F := Ideal) T 11 (ix2 (0 : Fin 1) (⟨64 * i.val + c.val, by omega⟩ : Fin 128)) * Ideal.logistic (x7 (ix2 (0 : Fin 1) (⟨64 * i.val + c.val, by omega⟩ : Fin 128)))) := by
  pointwise [outn]
  refine congrArg Ideal.tanh ?_
  rcases (show i = 0 ∨ i = 1 by omega) with rfl | rfl
  · rw [dif_pos (by decide)]
    simp
  · rw [dif_neg (by decide)]
    simp

/-- The unary disjunction. -/
theorem outu_apply (x8 : Vec Ideal S1x128 .f32) (T : Fin 12 → FVec Ideal S110x384 .f32) (o : Fin 12) (i : Fin 2) :
    outu (F := Ideal) x8 T (ix3 (0 : Fin 1) o i) = Ideal.tanh (∑ c : Fin 64,
      ustk (F := Ideal) T (ix2 o (⟨64 * i.val + c.val, by omega⟩ : Fin 128)) * Ideal.logistic (x8 (ix2 (0 : Fin 1) (⟨64 * i.val + c.val, by omega⟩ : Fin 128)))) := by
  pointwise [outu]
  refine congrArg Ideal.tanh ?_
  rcases (show i = 0 ∨ i = 1 by omega) with rfl | rfl
  · rw [dif_pos (by decide)]
    simp
  · rw [dif_neg (by decide)]
    simp

/-- The binary disjunction. -/
theorem outb_apply (x9 : Vec Ideal S1x128 .f32) (T : Fin 12 → FVec Ideal S110x384 .f32) (p : Fin 132) (i : Fin 2) :
    outb (F := Ideal) x9 T (ix3 (0 : Fin 1) p i) = Ideal.tanh (∑ c : Fin 64,
      bstk (F := Ideal) T (ix2 p (⟨64 * i.val + c.val, by omega⟩ : Fin 128)) * Ideal.logistic (x9 (ix2 (0 : Fin 1) (⟨64 * i.val + c.val, by omega⟩ : Fin 128)))) := by
  pointwise [outb]
  refine congrArg Ideal.tanh ?_
  rcases (show i = 0 ∨ i = 1 by omega) with rfl | rfl
  · rw [dif_pos (by decide)]
    simp
  · rw [dif_neg (by decide)]
    simp

/-- The stored tile. -/
theorem conv_apply (t : FVec Ideal S110x384 .f32) (j : Fin 110) (l : Fin 384) :
    conv (F := Ideal) t (ix3 (0 : Fin 1) j l) = t (ix2 j l) := by
  pointwise [conv]

/-- The unary maxima stacked. -/
theorem ustk_apply (T : Fin 12 → FVec Ideal S110x384 .f32) (o : Fin 12) (l : Fin 128) :
    ustk (F := Ideal) T (ix2 o l) = umax (F := Ideal) (T o) (ix2 (0 : Fin 1) l) := by
  refine concatenate_ofFn_apply (t := S12x128) (s₁ := S1x128) (0 : Fin 2) (fun o => umax (F := Ideal) (T o)) _ rfl 1 rfl _ o ?_ (ix2 (0 : Fin 1) l) ?_ ?_
  · show o.val / 1 = o.val
    omega
  · show 0 = o.val % 1
    omega
  · intro b hb
    fin_cases b
    · exact absurd rfl hb
    · rfl

/-- The binary maxima stacked. -/
theorem bstk_apply (T : Fin 12 → FVec Ideal S110x384 .f32) (p : Fin 132) (l : Fin 128) :
    bstk (F := Ideal) T (ix2 p l) = bmax (F := Ideal) (T (pairO p)) (pairR p) (ix2 (0 : Fin 1) l) := by
  refine concatenate_ofFn_apply (t := S132x128) (s₁ := S1x128) (0 : Fin 2) (fun n => bmax (F := Ideal) (T (pairO n)) (pairR n)) _ rfl 1 rfl _ p ?_ (ix2 (0 : Fin 1) l) ?_ ?_
  · show p.val / 1 = p.val
    omega
  · show 0 = p.val % 1
    omega
  · intro b hb
    fin_cases b
    · exact absurd rfl hb
    · rfl

end Cert.Dnf

end

end
-- ==== Proof.Spec.lean ====
/- What both programs compute, in the mathematics' own terms: the pre-activation of a first object, the rank of a second
   and the rank of a third one, and the maxima and disjunctions of the activations. -/
module

public import proofs.«01_k».proof.Proof.KRead

@[expose] public section

set_option maxRecDepth 16384

noncomputable section

namespace Cert.Dnf

open Idealize.ShloMosaic

/-! ## The pre-activation -/

section Pre

variable (W : Fin 384 → Fin 208 → EReal) (bias : Fin 384 → EReal) (N : Fin 16 → EReal) (U : Fin 12 → Fin 32 → EReal)
  (B : Fin 12 → Fin 11 → Fin 16 → EReal)

/-- The nullary facts' share. -/
def preN (c : Fin 384) : EReal := ∑ d : Fin 16, N d * W c ⟨d.val, by omega⟩
/-- The unary facts' share of variable `v` bound to object `o`. -/
def preU (v : Fin 3) (o : Fin 12) (c : Fin 384) : EReal := ∑ d : Fin 32, U o d * W c ⟨16 + 32 * v.val + d.val, by omega⟩
/-- The binary facts' share of the `s`-th pair of variables bound to object `o` and its other object of rank `q`. -/
def preB (s : Fin 6) (o : Fin 12) (q : Fin 11) (c : Fin 384) : EReal :=
  ∑ d : Fin 16, B o q d * W c ⟨112 + 16 * s.val + d.val, by omega⟩

/-- The share of the first two objects. -/
def preGA (c : Fin 384) (o : Fin 12) (r : Fin 11) : EReal :=
  (preU W U 0 o c + preN W N c + bias c + preU W U 1 (skip o r) c) + (preB W B 0 o r c + preB W B 2 (skip o r) (rank o r) c)
/-- The share of the first and the third object. -/
def preH (c : Fin 384) (o : Fin 12) (q : Fin 11) : EReal :=
  preU W U 2 (skip o q) c + (preB W B 1 o q c + preB W B 4 (skip o q) (rank o q) c)
/-- The share of the second and the third object. -/
def preC (c : Fin 384) (o : Fin 12) (q : Fin 11) : EReal :=
  preB W B 3 o q c + preB W B 5 (skip o q) (rank o q) c

/-- The pre-activation. -/
def pre (c : Fin 384) (o : Fin 12) (r : Fin 11) (k : Fin 10) : EReal :=
  preGA W bias N U B c o r + preH W U B c o (skipR r k) + preC W B c (skip o r) (skipR (rank o r) k)

end Pre

/-! ## Sums that pick -/

/-- A sum against the indicator of one index. -/
theorem sum_pick {n : Nat} (a : Fin n) (f : Fin n → EReal) : ∑ q : Fin n, (if q = a then (1 : EReal) else 0) * f q = f a := by
  simp [ite_mul]

/-- A sum against the indicator of two indices. -/
theorem sum_pick₂ {n : Nat} (a b : Fin n) (hab : a ≠ b) (f : Fin n → EReal) :
    ∑ q : Fin n, (if q = a ∨ q = b then (1 : EReal) else 0) * f q = f a + f b := by
  rw [← sum_pick a f, ← sum_pick b f, ← Finset.sum_add_distrib]
  refine Finset.sum_congr rfl fun q _ => ?_
  by_cases h1 : q = a
  · have h2 : q ≠ b := fun h => hab (h1.symm.trans h)
    simp [h1, hab]
  · simp [h1]

/-- A sum over forty-nine as one over thirty-two, one over sixteen and a last term. -/
theorem sum_49 (f : Fin 49 → EReal) : ∑ j : Fin 49, f j
    = ∑ d : Fin 32, f ⟨d.val, by omega⟩ + ∑ d : Fin 16, f ⟨32 + d.val, by omega⟩ + f ⟨48, by omega⟩ := by
  rw [Fin.sum_univ_castSucc (n := 48), Fin.sum_univ_add (a := 32) (b := 16)]
  rfl

/-! ## The kernel's weights -/

/-- The order in which the kernel stacks the six binary weights. -/
def slot : Fin 6 → Fin 6 := ![0, 1, 3, 2, 4, 5]

open Cert.KernelIdeal in
/-- What the kernel's four weight and selection blocks hold, of the weights and the bias. -/
structure Weights (W : Fin 384 → Fin 208 → EReal) (bias : Fin 384 → EReal) (x3 : Vec Ideal S49x1152 .f32) (x4 : Vec Ideal S16x2304 .f32)
    (x5 : Vec Ideal S132x132 .f32) (x6 : Vec Ideal S264x36 .f32) : Prop where
  unary : ∀ (d : Fin 32) (v : Fin 3) (c : Fin 384), x3 (ix2 (⟨d.val, by omega⟩ : Fin 49) (⟨384 * v.val + c.val, by omega⟩ : Fin 1152)) = W c ⟨16 + 32 * v.val + d.val, by omega⟩
  nullary : ∀ (d : Fin 16) (c : Fin 384), x3 (ix2 (⟨32 + d.val, by omega⟩ : Fin 49) (⟨c.val, by omega⟩ : Fin 1152)) = W c ⟨d.val, by omega⟩
  biases : ∀ c : Fin 384, x3 (ix2 (⟨48, by omega⟩ : Fin 49) (⟨c.val, by omega⟩ : Fin 1152)) = bias c
  zeros : ∀ (d : Fin 17) (c : Fin 768), x3 (ix2 (⟨32 + d.val, by omega⟩ : Fin 49) (⟨384 + c.val, by omega⟩ : Fin 1152)) = (0 : EReal)
  binary : ∀ (d : Fin 16) (s : Fin 6) (c : Fin 384), x4 (ix2 d (⟨384 * s.val + c.val, by omega⟩ : Fin 2304)) = W c ⟨112 + 16 * (slot s).val + d.val, by omega⟩
  perm : ∀ (o : Fin 12) (r : Fin 11) (q : Fin 132), x5 (ix2 (⟨11 * o.val + r.val, by omega⟩ : Fin 132) q)
    = if q = ⟨11 * (skip o r).val + (rank o r).val, by omega⟩ then (1 : EReal) else 0
  sel₁ : ∀ (o : Fin 12) (r : Fin 11) (j : Fin 36), x6 (ix2 (⟨11 * o.val + r.val, by omega⟩ : Fin 264) j)
    = if j = ⟨o.val, by omega⟩ ∨ j = ⟨12 + (skip o r).val, by omega⟩ then (1 : EReal) else 0
  sel₂ : ∀ (o : Fin 12) (r : Fin 11) (j : Fin 36), x6 (ix2 (⟨132 + (11 * o.val + r.val), by omega⟩ : Fin 264) j)
    = if j = ⟨24 + (skip o r).val, by omega⟩ then (1 : EReal) else 0

section Kernel

open Cert.KernelIdeal

variable {W : Fin 384 → Fin 208 → EReal} {bias : Fin 384 → EReal} {x3 : Vec Ideal S49x1152 .f32} {x4 : Vec Ideal S16x2304 .f32}
    {x5 : Vec Ideal S132x132 .f32} {x6 : Vec Ideal S264x36 .f32} (hw : Weights W bias x3 x4 x5 x6)
    (x0 : Vec Ideal S8x1x16 .f32) (x1 : Vec Ideal S8x12x32 .f32) (x2 : Vec Ideal S8x132x16 .f32) (b : Fin 8)

include hw

/-- The first unary projection carries the nullary facts' share and the bias. -/
theorem ucat_first (n : FVec Ideal S1x16 .f32) (u : FVec Ideal S12x32 .f32) (o : Fin 12) (c : Fin 384) :
    ucat (F := Ideal) x3 n u (ix2 o (⟨c.val, by omega⟩ : Fin 1152))
      = preU W (fun o d => u (ix2 o d)) 0 o c + preN W (fun d => n (ix2 (0 : Fin 1) d)) c + bias c := by
  rw [ucat_apply, sum_49]
  refine congrArg₂ (· + ·) (congrArg₂ (· + ·) (Finset.sum_congr rfl fun d _ => ?_) (Finset.sum_congr rfl fun d _ => ?_)) ?_
  · have h := hw.unary d 0 c
    rw [aug_apply, dif_pos d.isLt, ← h]
    congr 3
    apply Fin.ext
    simp
  · have h := hw.nullary d c
    rw [aug_apply, dif_neg (by simp), dif_pos (by simp; omega), h]
    congr 3
    apply Fin.ext
    simp
  · rw [aug_apply, dif_neg (by simp), dif_neg (by simp), hw.biases, one_mul]

/-- The other two unary projections. -/
theorem ucat_other (n : FVec Ideal S1x16 .f32) (u : FVec Ideal S12x32 .f32) (o : Fin 12) (v : Fin 3) (hv : v ≠ 0) (c : Fin 384) :
    ucat (F := Ideal) x3 n u (ix2 o (⟨384 * v.val + c.val, by omega⟩ : Fin 1152)) = preU W (fun o d => u (ix2 o d)) v o c := by
  have hv' : 1 ≤ v.val := by omega
  have hz : ∀ (e : Nat) (he : 32 + e < 49), x3 (ix2 (⟨32 + e, he⟩ : Fin 49) (⟨384 * v.val + c.val, by omega⟩ : Fin 1152)) = (0 : EReal) := by
    intro e he
    rw [← hw.zeros ⟨e, by omega⟩ ⟨384 * v.val + c.val - 384, by omega⟩]
    congr 2
    apply Fin.ext
    show 384 * v.val + c.val = 384 + (384 * v.val + c.val - 384)
    omega
  rw [ucat_apply, sum_49, hz 16 (by omega), mul_zero, add_zero,
    Finset.sum_eq_zero (fun d (_ : d ∈ (Finset.univ : Finset (Fin 16))) => by rw [hz d.val (by omega), mul_zero]), add_zero]
  refine Finset.sum_congr rfl fun d _ => ?_
  rw [aug_apply, dif_pos d.isLt, hw.unary d v c]

/-- A binary projection. -/
theorem bcat_slot (bb : FVec Ideal S132x16 .f32) (o : Fin 12) (r : Fin 11) (s : Fin 6) (c : Fin 384) :
    bcat (F := Ideal) x4 bb (ix2 (⟨11 * o.val + r.val, by omega⟩ : Fin 132) (⟨384 * s.val + c.val, by omega⟩ : Fin 2304))
      = preB W (fun o r d => bb (ix2 (⟨11 * o.val + r.val, by omega⟩ : Fin 132) d)) (slot s) o r c := by
  rw [bcat_apply]
  refine Finset.sum_congr rfl fun d _ => ?_
  rw [hw.binary d s c]

/-- A projection and a permuted projection of the binary facts. -/
theorem abc_slot (bb : FVec Ideal S132x16 .f32) (o : Fin 12) (r : Fin 11) (s : Fin 3) (c : Fin 384) :
    abc (F := Ideal) x4 x5 bb (ix2 (⟨11 * o.val + r.val, by omega⟩ : Fin 132) (⟨384 * s.val + c.val, by omega⟩ : Fin 1152))
      = preB W (fun o r d => bb (ix2 (⟨11 * o.val + r.val, by omega⟩ : Fin 132) d)) (slot ⟨s.val, by omega⟩) o r c
        + preB W (fun o r d => bb (ix2 (⟨11 * o.val + r.val, by omega⟩ : Fin 132) d)) (slot ⟨3 + s.val, by omega⟩) (skip o r) (rank o r) c := by
  rw [abc_apply, ← bcat_slot hw bb o r, ← bcat_slot hw bb (skip o r) (rank o r)]
  refine congrArg₂ (· + ·) rfl ?_
  rw [Finset.sum_congr rfl fun q _ => by rw [hw.perm o r q], sum_pick]
  congr 2
  apply Fin.ext
  show 1152 + (384 * s.val + c.val) = 384 * (3 + s.val) + c.val
  omega

/-- The share of the first two objects. -/
theorem gaAll_apply (o : Fin 12) (r : Fin 11) (c : Fin 384) :
    gaAll (F := Ideal) x0 x1 x2 x3 x4 x5 x6 b (ix2 (⟨11 * o.val + r.val, by omega⟩ : Fin 132) c)
      = preGA W bias (fun d => x0 (ix3 b (0 : Fin 1) d)) (fun o d => x1 (ix3 b o d))
          (fun o r d => x2 (ix3 b (⟨11 * o.val + r.val, by omega⟩ : Fin 132) d)) c o r := by
  have ha := abc_slot hw (bin (F := Ideal) x2 b) o r 0 c
  have hy : yall (F := Ideal) x3 x6 (nul (F := Ideal) x0 b) (una (F := Ideal) x1 b) (ix2 (⟨11 * o.val + r.val, by omega⟩ : Fin 264) c)
      = preU W (fun o d => una (F := Ideal) x1 b (ix2 o d)) 0 o c + preN W (fun d => nul (F := Ideal) x0 b (ix2 (0 : Fin 1) d)) c + bias c
        + preU W (fun o d => una (F := Ideal) x1 b (ix2 o d)) 1 (skip o r) c := by
    rw [yall_apply, Finset.sum_congr rfl fun q _ => by rw [hw.sel₁ o r q],
      sum_pick₂ _ _ (fun h => by have := congrArg Fin.val h; simp at this; omega), ← ucat_first hw, ← ucat_other hw _ _ _ 1 (by decide),
      ustack_apply, ustack_apply]
    refine congrArg₂ (· + ·) ?_ ?_
    · congr 2 <;> apply Fin.ext <;> simp <;> omega
    · congr 2 <;> apply Fin.ext <;> simp <;> omega
  simp only [bin_apply] at ha
  simp only [una_apply, nul_apply] at hy
  unfold gaAll preGA
  pointwise []
  rw [hy]
  refine congrArg₂ (· + ·) rfl (Eq.trans ?_ ha)
  congr 2
  apply Fin.ext
  simp

/-- The share of the first and the third object. -/
theorem hAll_apply (o : Fin 12) (q : Fin 11) (c : Fin 384) :
    hAll (F := Ideal) x0 x1 x2 x3 x4 x5 x6 b (ix2 (⟨11 * o.val + q.val, by omega⟩ : Fin 132) c)
      = preH W (fun o d => x1 (ix3 b o d)) (fun o r d => x2 (ix3 b (⟨11 * o.val + r.val, by omega⟩ : Fin 132) d)) c o q := by
  have ha := abc_slot hw (bin (F := Ideal) x2 b) o q 1 c
  have hy : yall (F := Ideal) x3 x6 (nul (F := Ideal) x0 b) (una (F := Ideal) x1 b) (ix2 (⟨132 + (11 * o.val + q.val), by omega⟩ : Fin 264) c)
      = preU W (fun o d => una (F := Ideal) x1 b (ix2 o d)) 2 (skip o q) c := by
    rw [yall_apply, Finset.sum_congr rfl fun j _ => by rw [hw.sel₂ o q j], sum_pick, ← ucat_other hw _ _ _ 2 (by decide), ustack_apply]
    congr 2 <;> apply Fin.ext <;> simp <;> omega
  simp only [bin_apply] at ha
  simp only [una_apply] at hy
  unfold hAll preH
  pointwise []
  rw [hy]
  refine congrArg₂ (· + ·) rfl (Eq.trans ?_ ha)
  congr 2

/-- The share of the second and the third object. -/
theorem cAll_apply (o : Fin 12) (q : Fin 11) (c : Fin 384) :
    cAll (F := Ideal) x2 x4 x5 b (ix2 (⟨11 * o.val + q.val, by omega⟩ : Fin 132) c)
      = preC W (fun o r d => x2 (ix3 b (⟨11 * o.val + r.val, by omega⟩ : Fin 132) d)) c o q := by
  have ha := abc_slot hw (bin (F := Ideal) x2 b) o q 2 c
  simp only [bin_apply] at ha
  unfold cAll preC
  pointwise []
  refine Eq.trans ?_ ha
  congr 2

/-- A row of a tile is the activation at its three objects. -/
theorem tiles_apply (o : Fin 12) (r : Fin 11) (k : Fin 10) (c : Fin 384) :
    tiles (F := Ideal) x0 x1 x2 x3 x4 x5 x6 b o (ix2 (⟨10 * r.val + k.val, by omega⟩ : Fin 110) c)
      = Ideal.tanh (pre W bias (fun d => x0 (ix3 b (0 : Fin 1) d)) (fun o d => x1 (ix3 b o d))
          (fun o r d => x2 (ix3 b (⟨11 * o.val + r.val, by omega⟩ : Fin 132) d)) c o r k) := by
  unfold tiles
  rw [tile_apply, blk_apply, gaAll_apply hw, hAll_apply hw, cAll_apply hw]
  rfl

end Kernel

/-! ## Greatest values over a grid -/

/-- The greatest value over a range of `m` groups of `n`. -/
theorem sup_groups {m n N : Nat} (hN : ∀ (a : Fin m) (b : Fin n), n * a.val + b.val < N) (hM : N = n * m) (f : Fin N → EReal) :
    Finset.univ.sup f = Finset.univ.sup fun a : Fin m => Finset.univ.sup fun b : Fin n => f ⟨n * a.val + b.val, hN a b⟩ := by
  apply le_antisymm
  · refine Finset.sup_le fun j _ => ?_
    have hj := j.isLt
    have hn : 0 < n := Nat.pos_of_ne_zero fun h => by subst h; omega
    have e : j = ⟨n * (⟨j.val / n, Nat.div_lt_of_lt_mul (hM ▸ hj)⟩ : Fin m).val + (⟨j.val % n, Nat.mod_lt _ hn⟩ : Fin n).val, hN _ _⟩ :=
      Fin.ext (Nat.div_add_mod _ _).symm
    rw [e]
    exact (Finset.le_sup (f := fun b : Fin n => f ⟨n * (⟨j.val / n, Nat.div_lt_of_lt_mul (hM ▸ hj)⟩ : Fin m).val + b.val, hN _ _⟩)
      (Finset.mem_univ (⟨j.val % n, Nat.mod_lt _ hn⟩ : Fin n))).trans
      (Finset.le_sup (f := fun a : Fin m => Finset.univ.sup fun b : Fin n => f ⟨n * a.val + b.val, hN a b⟩) (Finset.mem_univ _))
  · exact Finset.sup_le fun a _ => Finset.sup_le fun b _ => Finset.le_sup (f := f) (Finset.mem_univ _)

open Cert.KernelIdeal in
/-- The running maximum is the greatest of the maxima met so far. -/
theorem chain_apply (T : Fin 12 → FVec Ideal S110x384 .f32) (n : Nat) (i : S1x128.Idx) :
    (chain (F := Ideal) T n i : EReal) = (Finset.range (n + 1)).sup fun k => (nmax (F := Ideal) (T (Fin.ofNat 12 k)) i : EReal) := by
  induction n with
  | zero => simp [chain]
  | succ n ih =>
    rw [Finset.range_add_one, Finset.sup_insert, ← ih, max_comm]
    rfl

open Cert.KernelIdeal in
/-- The running maximum over all twelve objects. -/
theorem chain_all (T : Fin 12 → FVec Ideal S110x384 .f32) (i : S1x128.Idx) :
    (chain (F := Ideal) T 11 i : EReal) = Finset.univ.sup fun o : Fin 12 => (nmax (F := Ideal) (T o) i : EReal) := by
  rw [chain_apply]
  apply le_antisymm
  · exact Finset.sup_le fun k _ => Finset.le_sup (f := fun o : Fin 12 => (nmax (F := Ideal) (T o) i : EReal)) (Finset.mem_univ _)
  · refine Finset.sup_le fun o _ => ?_
    have := Finset.le_sup (f := fun k => (nmax (F := Ideal) (T (Fin.ofNat 12 k)) i : EReal)) (Finset.mem_range.2 o.isLt)
    have e : Fin.ofNat 12 o.val = o := Fin.ext (Nat.mod_eq_of_lt o.isLt)
    simpa only [e] using this

/-! ## The four results -/

section Results

variable (W : Fin 384 → Fin 208 → EReal) (bias : Fin 384 → EReal) (N : Fin 16 → EReal) (U : Fin 12 → Fin 32 → EReal)
  (B : Fin 12 → Fin 11 → Fin 16 → EReal) (g : Fin 128 → EReal)

/-- The activation. -/
def act (o : Fin 12) (r : Fin 11) (k : Fin 10) (c : Fin 384) : EReal := Ideal.tanh (pre W bias N U B c o r k)

/-- The nullary disjunction. -/
def disN (i : Fin 2) : EReal :=
  Ideal.tanh (∑ c : Fin 64, (Finset.univ.sup fun o : Fin 12 => Finset.univ.sup fun r : Fin 11 => Finset.univ.sup fun k : Fin 10 =>
    act W bias N U B o r k ⟨64 * i.val + c.val, by omega⟩) * Ideal.logistic (g ⟨64 * i.val + c.val, by omega⟩))

/-- The unary disjunction. -/
def disU (o : Fin 12) (i : Fin 2) : EReal :=
  Ideal.tanh (∑ c : Fin 64, (Finset.univ.sup fun r : Fin 11 => Finset.univ.sup fun k : Fin 10 =>
    act W bias N U B o r k ⟨128 + (64 * i.val + c.val), by omega⟩) * Ideal.logistic (g ⟨64 * i.val + c.val, by omega⟩))

/-- The binary disjunction. -/
def disB (o : Fin 12) (r : Fin 11) (i : Fin 2) : EReal :=
  Ideal.tanh (∑ c : Fin 64, (Finset.univ.sup fun k : Fin 10 =>
    act W bias N U B o r k ⟨256 + (64 * i.val + c.val), by omega⟩) * Ideal.logistic (g ⟨64 * i.val + c.val, by omega⟩))

end Results

section Kernel

open Cert.KernelIdeal

variable {W : Fin 384 → Fin 208 → EReal} {bias : Fin 384 → EReal} {x3 : Vec Ideal S49x1152 .f32} {x4 : Vec Ideal S16x2304 .f32}
    {x5 : Vec Ideal S132x132 .f32} {x6 : Vec Ideal S264x36 .f32} (hw : Weights W bias x3 x4 x5 x6)
    (x0 : Vec Ideal S8x1x16 .f32) (x1 : Vec Ideal S8x12x32 .f32) (x2 : Vec Ideal S8x132x16 .f32) (x : Vec Ideal S1x128 .f32) (b : Fin 8)

include hw

/-- The kernel's nullary disjunction. -/
theorem outn_tiles (i : Fin 2) :
    outn (F := Ideal) x (tiles (F := Ideal) x0 x1 x2 x3 x4 x5 x6 b) (ix3 (0 : Fin 1) (0 : Fin 1) i)
      = disN W bias (fun d => x0 (ix3 b (0 : Fin 1) d)) (fun o d => x1 (ix3 b o d))
          (fun o r d => x2 (ix3 b (⟨11 * o.val + r.val, by omega⟩ : Fin 132) d)) (fun c => x (ix2 (0 : Fin 1) c)) i := by
  rw [outn_apply]
  refine congrArg Ideal.tanh (Finset.sum_congr rfl fun c _ => congrArg₂ (· * ·) ?_ rfl)
  rw [chain_all]
  refine Finset.sup_congr rfl fun o _ => ?_
  rw [nmax_apply, sup_groups (m := 11) (n := 10) (fun a b => by omega) rfl]
  exact Finset.sup_congr rfl fun r _ => Finset.sup_congr rfl fun k _ => tiles_apply hw x0 x1 x2 b o r k _

/-- The kernel's unary disjunction. -/
theorem outu_tiles (o : Fin 12) (i : Fin 2) :
    outu (F := Ideal) x (tiles (F := Ideal) x0 x1 x2 x3 x4 x5 x6 b) (ix3 (0 : Fin 1) o i)
      = disU W bias (fun d => x0 (ix3 b (0 : Fin 1) d)) (fun o d => x1 (ix3 b o d))
          (fun o r d => x2 (ix3 b (⟨11 * o.val + r.val, by omega⟩ : Fin 132) d)) (fun c => x (ix2 (0 : Fin 1) c)) o i := by
  rw [outu_apply]
  refine congrArg Ideal.tanh (Finset.sum_congr rfl fun c _ => congrArg₂ (· * ·) ?_ rfl)
  rw [ustk_apply, umax_apply, sup_groups (m := 11) (n := 10) (fun a b => by omega) rfl]
  exact Finset.sup_congr rfl fun r _ => Finset.sup_congr rfl fun k _ => tiles_apply hw x0 x1 x2 b o r k _

/-- The kernel's binary disjunction. -/
theorem outb_tiles (p : Fin 132) (i : Fin 2) :
    outb (F := Ideal) x (tiles (F := Ideal) x0 x1 x2 x3 x4 x5 x6 b) (ix3 (0 : Fin 1) p i)
      = disB W bias (fun d => x0 (ix3 b (0 : Fin 1) d)) (fun o d => x1 (ix3 b o d))
          (fun o r d => x2 (ix3 b (⟨11 * o.val + r.val, by omega⟩ : Fin 132) d)) (fun c => x (ix2 (0 : Fin 1) c)) (pairO p) (pairR p) i := by
  rw [outb_apply]
  refine congrArg Ideal.tanh (Finset.sum_congr rfl fun c _ => congrArg₂ (· * ·) ?_ rfl)
  rw [bstk_apply, bmax_apply]
  exact Finset.sup_congr rfl fun k _ => tiles_apply hw x0 x1 x2 b _ _ k _

end Kernel

end Cert.Dnf

end

end
-- ==== Proof.Pieces.lean ====
/- What the kernel leaves in its four result blocks is the pieces that Dnf writes, one for each batch row (and first
   object): an equation that evaluation settles. -/
module

public import proofs.«01_k».proof.Proof.Dnf
public import Idealize.ShloMosaic.Lib.Pipeline.ValueKit

@[expose] public section

set_option maxRecDepth 16384

noncomputable section

namespace Cert.Dnf

open Idealize.ShloMosaic Cert.KernelIdeal Cert.KernelIdeal.Gen

variable {F : FTy → Type} [FloatOps F]

/-- The tile of a batch row and a first object lies inside the block of conjuncts. -/
theorem inb_conv (k : Fin 96) : ∀ a, (![7 - k.val / 12, 110 * (11 - k.val % 12), 0] : Fin 3 → Nat) a + S1x110x384.size a ≤ S8x1320x384.size a := by
  revert k; decide +kernel
/-- One batch row of the nullary result lies inside its block. -/
theorem inb_outn (k : Fin 8) : ∀ a, (![7 - k.val, 0, 0] : Fin 3 → Nat) a + S1x1x2.size a ≤ S8x1x2.size a := by revert k; decide
/-- One batch row of the unary result lies inside its block. -/
theorem inb_outu (k : Fin 8) : ∀ a, (![7 - k.val, 0, 0] : Fin 3 → Nat) a + S1x12x2.size a ≤ S8x12x2.size a := by revert k; decide
/-- One batch row of the binary result lies inside its block. -/
theorem inb_outb (k : Fin 8) : ∀ a, (![7 - k.val, 0, 0] : Fin 3 → Nat) a + S1x132x2.size a ≤ S8x132x2.size a := by revert k; decide

variable (x0 : Vec F S8x1x16 .f32) (x1 : Vec F S8x12x32 .f32) (x2 : Vec F S8x132x16 .f32) (x3 : Vec F S49x1152 .f32)
    (x4 : Vec F S16x2304 .f32) (x5 : Vec F S132x132 .f32) (x6 : Vec F S264x36 .f32) (x7 x8 x9 : Vec F S1x128 .f32)

/-- The batch row of a store, the last store first. -/
def row8 (k : Fin 8) : Fin 8 := ⟨7 - k.val, by omega⟩
/-- The batch row of a tile's store, the last store first. -/
def row96 (k : Fin 96) : Fin 8 := ⟨7 - k.val / 12, by omega⟩
/-- The first object of a tile's store, the last store first. -/
def obj96 (k : Fin 96) : Fin 12 := ⟨11 - k.val % 12, by omega⟩

/-- The conjuncts' block is ninety-six tiles. -/
theorem out10_eq : out0_10 x0 x1 x2 x3 x4 x5 x6 x7 x8 x9 = View.canon (List.ofFn fun k : Fin 96 =>
    (⟨Rect.unit (s := S8x1320x384) ![7 - k.val / 12, 110 * (11 - k.val % 12), 0] S1x110x384.size (inb_conv k),
      conv (tiles x0 x1 x2 x3 x4 x5 x6 (row96 k) (obj96 k))⟩ : View.Piece (Elt F) S8x1320x384 .bf16)) := by
  sl_kernel_rfl

/-- The nullary result's block is eight rows. -/
theorem out11_eq : out0_11 x0 x1 x2 x3 x4 x5 x6 x7 x8 x9 = View.canon (List.ofFn fun k : Fin 8 =>
    (⟨Rect.unit (s := S8x1x2) ![7 - k.val, 0, 0] S1x1x2.size (inb_outn k),
      outn x7 (tiles x0 x1 x2 x3 x4 x5 x6 (row8 k))⟩ : View.Piece (Elt F) S8x1x2 .f32)) := by
  sl_kernel_rfl

/-- The unary result's block is eight rows. -/
theorem out12_eq : out0_12 x0 x1 x2 x3 x4 x5 x6 x7 x8 x9 = View.canon (List.ofFn fun k : Fin 8 =>
    (⟨Rect.unit (s := S8x12x2) ![7 - k.val, 0, 0] S1x12x2.size (inb_outu k),
      outu x8 (tiles x0 x1 x2 x3 x4 x5 x6 (row8 k))⟩ : View.Piece (Elt F) S8x12x2 .f32)) := by
  sl_kernel_rfl

/-- The binary result's block is eight rows. -/
theorem out13_eq : out0_13 x0 x1 x2 x3 x4 x5 x6 x7 x8 x9 = View.canon (List.ofFn fun k : Fin 8 =>
    (⟨Rect.unit (s := S8x132x2) ![7 - k.val, 0, 0] S1x132x2.size (inb_outb k),
      outb x9 (tiles x0 x1 x2 x3 x4 x5 x6 (row8 k))⟩ : View.Piece (Elt F) S8x132x2 .f32)) := by
  sl_kernel_rfl

end Cert.Dnf

end

end
-- ==== Proof.KOut.lean ====
/- The kernel's four output blocks at an index. -/
module

public import proofs.«01_k».proof.Proof.Spec
public import proofs.«01_k».proof.Proof.Pieces

@[expose] public section

set_option maxRecDepth 16384

noncomputable section

namespace Cert.Dnf

open Idealize.ShloMosaic Cert.KernelIdeal Cert.KernelIdeal.Gen

/-- The first object of a row. -/
def rowO (p : Fin 1320) : Fin 12 := ⟨p.val / 110, by omega⟩
/-- The rank of a row's second object. -/
def rowR (p : Fin 1320) : Fin 11 := ⟨p.val % 110 / 10, by omega⟩
/-- The rank of a row's third object. -/
def rowK (p : Fin 1320) : Fin 10 := ⟨p.val % 10, by omega⟩

variable {W : Fin 384 → Fin 208 → EReal} {bias : Fin 384 → EReal} {x3 : Vec Ideal S49x1152 .f32} {x4 : Vec Ideal S16x2304 .f32}
    {x5 : Vec Ideal S132x132 .f32} {x6 : Vec Ideal S264x36 .f32} (hw : Weights W bias x3 x4 x5 x6)
    (x0 : Vec Ideal S8x1x16 .f32) (x1 : Vec Ideal S8x12x32 .f32) (x2 : Vec Ideal S8x132x16 .f32) (x7 x8 x9 : Vec Ideal S1x128 .f32) (b : Fin 8)

include hw

/-- The block of conjuncts. -/
theorem out10_apply (p : Fin 1320) (l : Fin 384) : out0_10 (F := Ideal) x0 x1 x2 x3 x4 x5 x6 x7 x8 x9 (ix3 b p l)
    = act W bias (fun d => x0 (ix3 b (0 : Fin 1) d)) (fun o d => x1 (ix3 b o d))
          (fun o r d => x2 (ix3 b (⟨11 * o.val + r.val, by omega⟩ : Fin 132) d)) (rowO p) (rowR p) (rowK p) l := by
  have hp := p.isLt
  have hb := b.isLt
  rw [out10_eq]
  refine View.canon_ofFn_unit_eq_of_forall _ _ _ _ _ _ ?_ ?_
  · refine ⟨⟨12 * (7 - b.val) + (11 - p.val / 110), by omega⟩, fun a => ?_⟩
    fin_cases a <;> simp <;> omega
  · intro k x hx
    have hk := k.isLt
    have h0 : b.val = 7 - k.val / 12 + (x 0).val := hx 0
    have h1 : p.val = 110 * (11 - k.val % 12) + (x 1).val := hx 1
    have h2 : l.val = 0 + (x 2).val := hx 2
    have l0 : (x 0).val < 1 := (x 0).isLt
    have l1 : (x 1).val < 110 := (x 1).isLt
    have e0 : row96 k = b := Fin.ext (by show 7 - k.val / 12 = b.val; omega)
    have e1 : obj96 k = rowO p := Fin.ext (by show 11 - k.val % 12 = p.val / 110; omega)
    have ex : x = (ix3 (0 : Fin 1) (⟨10 * (rowR p).val + (rowK p).val, by omega⟩ : Fin 110) l : S1x110x384.Idx) := by
      funext a
      apply Fin.ext
      fin_cases a
      · show (x 0).val = 0
        omega
      · show (x 1).val = 10 * (p.val % 110 / 10) + p.val % 10
        omega
      · show (x 2).val = l.val
        omega
    rw [e0, e1, ex]
    exact (conv_apply _ _ _).trans (tiles_apply hw x0 x1 x2 b _ _ _ _)

/-- The block of nullary results. -/
theorem out11_apply (i : Fin 2) : out0_11 (F := Ideal) x0 x1 x2 x3 x4 x5 x6 x7 x8 x9 (ix3 b (0 : Fin 1) i)
    = disN W bias (fun d => x0 (ix3 b (0 : Fin 1) d)) (fun o d => x1 (ix3 b o d))
          (fun o r d => x2 (ix3 b (⟨11 * o.val + r.val, by omega⟩ : Fin 132) d)) (fun c => x7 (ix2 (0 : Fin 1) c)) i := by
  have hb := b.isLt
  rw [out11_eq]
  refine View.canon_ofFn_unit_eq_of_forall _ _ _ _ _ _ ?_ ?_
  · refine ⟨⟨7 - b.val, by omega⟩, fun a => ?_⟩
    fin_cases a <;> simp <;> omega
  · intro k x hx
    have hk := k.isLt
    have h0 : b.val = 7 - k.val + (x 0).val := hx 0
    have h2 : i.val = 0 + (x 2).val := hx 2
    have l0 : (x 0).val < 1 := (x 0).isLt
    have l1 : (x 1).val < 1 := (x 1).isLt
    have e0 : row8 k = b := Fin.ext (by show 7 - k.val = b.val; omega)
    have ex : x = (ix3 (0 : Fin 1) (0 : Fin 1) i : S1x1x2.Idx) := by
      funext a
      apply Fin.ext
      fin_cases a
      · show (x 0).val = 0
        omega
      · show (x 1).val = 0
        omega
      · show (x 2).val = i.val
        omega
    rw [e0, ex]
    exact outn_tiles hw x0 x1 x2 x7 b i

/-- The block of unary results. -/
theorem out12_apply (o : Fin 12) (i : Fin 2) : out0_12 (F := Ideal) x0 x1 x2 x3 x4 x5 x6 x7 x8 x9 (ix3 b o i)
    = disU W bias (fun d => x0 (ix3 b (0 : Fin 1) d)) (fun o d => x1 (ix3 b o d))
          (fun o r d => x2 (ix3 b (⟨11 * o.val + r.val, by omega⟩ : Fin 132) d)) (fun c => x8 (ix2 (0 : Fin 1) c)) o i := by
  have hb := b.isLt
  have ho := o.isLt
  rw [out12_eq]
  refine View.canon_ofFn_unit_eq_of_forall _ _ _ _ _ _ ?_ ?_
  · refine ⟨⟨7 - b.val, by omega⟩, fun a => ?_⟩
    fin_cases a <;> simp <;> omega
  · intro k x hx
    have hk := k.isLt
    have h0 : b.val = 7 - k.val + (x 0).val := hx 0
    have h1 : o.val = 0 + (x 1).val := hx 1
    have h2 : i.val = 0 + (x 2).val := hx 2
    have l0 : (x 0).val < 1 := (x 0).isLt
    have e0 : row8 k = b := Fin.ext (by show 7 - k.val = b.val; omega)
    have ex : x = (ix3 (0 : Fin 1) o i : S1x12x2.Idx) := by
      funext a
      apply Fin.ext
      fin_cases a
      · show (x 0).val = 0
        omega
      · show (x 1).val = o.val
        omega
      · show (x 2).val = i.val
        omega
    rw [e0, ex]
    exact outu_tiles hw x0 x1 x2 x8 b o i

/-- The block of binary results. -/
theorem out13_apply (p : Fin 132) (i : Fin 2) : out0_13 (F := Ideal) x0 x1 x2 x3 x4 x5 x6 x7 x8 x9 (ix3 b p i)
    = disB W bias (fun d => x0 (ix3 b (0 : Fin 1) d)) (fun o d => x1 (ix3 b o d))
          (fun o r d => x2 (ix3 b (⟨11 * o.val + r.val, by omega⟩ : Fin 132) d)) (fun c => x9 (ix2 (0 : Fin 1) c)) (pairO p) (pairR p) i := by
  have hb := b.isLt
  have hp := p.isLt
  rw [out13_eq]
  refine View.canon_ofFn_unit_eq_of_forall _ _ _ _ _ _ ?_ ?_
  · refine ⟨⟨7 - b.val, by omega⟩, fun a => ?_⟩
    fin_cases a <;> simp <;> omega
  · intro k x hx
    have hk := k.isLt
    have h0 : b.val = 7 - k.val + (x 0).val := hx 0
    have h1 : p.val = 0 + (x 1).val := hx 1
    have h2 : i.val = 0 + (x 2).val := hx 2
    have l0 : (x 0).val < 1 := (x 0).isLt
    have e0 : row8 k = b := Fin.ext (by show 7 - k.val = b.val; omega)
    have ex : x = (ix3 (0 : Fin 1) p i : S1x132x2.Idx) := by
      funext a
      apply Fin.ext
      fin_cases a
      · show (x 0).val = 0
        omega
      · show (x 1).val = p.val
        omega
      · show (x 2).val = i.val
        omega
    rw [e0, ex]
    exact outb_tiles hw x0 x1 x2 x9 b p i

end Cert.Dnf

end

end
-- ==== Proof.Weights.lean ====
/- The entries of the laid-out weights and of the two tables of zeros and ones. -/
module

public import proofs.«01_k».proof.Proof.Spec

@[expose] public section

set_option maxRecDepth 16384

noncomputable section

namespace Cert.Dnf

open Idealize.ShloMosaic Cert.KernelIdeal

/-- The entries of the permutation table. -/
theorem lit0_eq : ∀ (o : Fin 12) (r : Fin 11) (q : Fin 132), lit0 ⟨132 * (11 * o.val + r.val) + q.val, by omega⟩
    = if q.val = 11 * (skip o r).val + (rank o r).val then 0x3F800000#32 else 0#32 := by
  decide +kernel

/-- The entries of the selection table's upper half. -/
theorem lit1_upper : ∀ (o : Fin 12) (r : Fin 11) (j : Fin 36), lit1 ⟨36 * (11 * o.val + r.val) + j.val, by omega⟩
    = if j.val = o.val ∨ j.val = 12 + (skip o r).val then 0x3F800000#32 else 0#32 := by
  decide +kernel

/-- The entries of the selection table's lower half. -/
theorem lit1_lower : ∀ (o : Fin 12) (r : Fin 11) (j : Fin 36), lit1 ⟨36 * (132 + (11 * o.val + r.val)) + j.val, by omega⟩
    = if j.val = 24 + (skip o r).val then 0x3F800000#32 else 0#32 := by
  decide +kernel

end Cert.Dnf

end

end
-- ==== Proof.Prefix.lean ====
/- What the kernel's region finds in the arrays the host program lays out, read off the arguments. -/
module

public import proofs.«01_k».proof.Proof.Spec
public import proofs.«01_k».proof.Proof.Gen.KernelIdeal.Frame

@[expose] public section

set_option maxRecDepth 16384

noncomputable section

namespace Cert.Dnf

open Idealize.ShloMosaic Cert.KernelIdeal Cert.KernelIdeal.Gen

/-! ## The host program's arrays -/

/-- The weights, one row an input. -/
def wt (a3 : FVec Ideal S6x64x208 .f32) : FVec Ideal S208x384 .f32 :=
  shapeCast S208x384 (transpose S208x6x64 [2, 0, 1] a3 transposes_S6x64x208_S208x6x64_2_0_1) shapeCasts_S208x6x64_S208x384

/-- The augmented unary weights. -/
def wuOf (a3 : FVec Ideal S6x64x208 .f32) (a4 : FVec Ideal S6x64 .f32) : FVec Ideal S49x1152 .f32 :=
  concatenate S49x1152 0
    [⟨S32x1152, concatenate S32x1152 1
      [⟨S32x384, extractStridedSlice S32x384 ![16, 0] (wt a3) slices_S208x384_S32x384_16_0⟩,
       ⟨S32x384, extractStridedSlice S32x384 ![48, 0] (wt a3) slices_S208x384_S32x384_48_0⟩,
       ⟨S32x384, extractStridedSlice S32x384 ![80, 0] (wt a3) slices_S208x384_S32x384_80_0⟩] concatenates_S32x384_S32x384_S32x384_S32x1152_d1⟩,
     ⟨S17x1152, concatenate S17x1152 1
      [⟨S17x384, concatenate S17x384 0
        [⟨S16x384, extractStridedSlice S16x384 ![0, 0] (wt a3) slices_S208x384_S16x384_0_0⟩,
         ⟨S1x384, shapeCast S1x384 a4 shapeCasts_S6x64_S1x384⟩] concatenates_S16x384_S1x384_S17x384_d0⟩,
       ⟨S17x768, broadcastInDim S17x768 ![] bcast_S_S17x768 (constant (F := Ideal) S_ .f32 0x00000000#32)⟩] concatenates_S17x384_S17x768_S17x1152_d1⟩]
    concatenates_S32x1152_S17x1152_S49x1152_d0

/-- The binary weights. -/
def wbOf (a3 : FVec Ideal S6x64x208 .f32) : FVec Ideal S16x2304 .f32 :=
  concatenate S16x2304 1
    [⟨S16x384, extractStridedSlice S16x384 ![112, 0] (wt a3) slices_S208x384_S16x384_112_0⟩,
     ⟨S16x384, extractStridedSlice S16x384 ![128, 0] (wt a3) slices_S208x384_S16x384_128_0⟩,
     ⟨S16x384, extractStridedSlice S16x384 ![160, 0] (wt a3) slices_S208x384_S16x384_160_0⟩,
     ⟨S16x384, extractStridedSlice S16x384 ![144, 0] (wt a3) slices_S208x384_S16x384_144_0⟩,
     ⟨S16x384, extractStridedSlice S16x384 ![176, 0] (wt a3) slices_S208x384_S16x384_176_0⟩,
     ⟨S16x384, extractStridedSlice S16x384 ![192, 0] (wt a3) slices_S208x384_S16x384_192_0⟩]
    concatenates_S16x384_S16x384_S16x384_S16x384_S16x384_S16x384_S16x2304_d1

/-- The permutation of the binary rows. -/
def pmOf : FVec Ideal S132x132 .f32 := fun i => FloatOps.ofBits (F := Ideal) .f32 (lit0 (S132x132.rowMajor i))
/-- The selection of the unary rows. -/
def slOf : FVec Ideal S264x36 .f32 := fun i => FloatOps.ofBits (F := Ideal) .f32 (lit1 (S264x36.rowMajor i))

variable (m : (ℓ : Loc nD τ sig) → Buf (Elt Ideal) ℓ) (c : Dev nD)

/-- The augmented unary weights as the region finds them. -/
theorem V_main_v11 : V m c main_v11 = wuOf (m ((c.tc : Thread nD τ).loc main_arg3)) (m ((c.tc : Thread nD τ).loc main_arg4)) := by
  simp only [V, V0, hostOps0, List.flatten_cons, List.flatten_nil, List.append_nil]
  after_results_simp <;> (try dsimp only [Matrix.cons_val]) <;> (try after_results_simp) <;> rfl

/-- The binary weights as the region finds them. -/
theorem V_main_v18 : V m c main_v18 = wbOf (m ((c.tc : Thread nD τ).loc main_arg3)) := by
  simp only [V, V0, hostOps0, List.flatten_cons, List.flatten_nil, List.append_nil]
  after_results_simp <;> (try dsimp only [Matrix.cons_val]) <;> (try after_results_simp) <;> rfl

/-- The permutation as the region finds it. -/
theorem V_main_cst : V m c main_cst = pmOf := by
  simp only [V, V0, hostOps0, List.flatten_cons, List.flatten_nil, List.append_nil]
  after_results_simp <;> rfl

/-- The selection as the region finds it. -/
theorem V_main_cst_0 : V m c main_cst_0 = slOf := by
  simp only [V, V0, hostOps0, List.flatten_cons, List.flatten_nil, List.append_nil]
  after_results_simp <;> rfl

/-- The binary facts as the region finds them. -/
theorem V_main_v19 : V m c main_v19 = (shapeCast S32x132x16 (m ((c.tc : Thread nD τ).loc main_arg2) : FVec Ideal S32x12x11x16 .f32) shapeCasts_S32x12x11x16_S32x132x16 : FVec Ideal S32x132x16 .f32) := by
  simp only [V, V0, hostOps0, List.flatten_cons, List.flatten_nil, List.append_nil]
  after_results_simp <;> rfl

/-- The nullary facts as the region finds them. -/
theorem V_main_v23 : V m c main_v23 = (shapeCast S32x1x16 (m ((c.tc : Thread nD τ).loc main_arg0) : FVec Ideal S32x16 .f32) shapeCasts_S32x16_S32x1x16 : FVec Ideal S32x1x16 .f32) := by
  simp only [V, V0, hostOps0, List.flatten_cons, List.flatten_nil, List.append_nil]
  after_results_simp <;> rfl

/-- The nullary gates as the region finds them. -/
theorem V_main_v20 : V m c main_v20 = (shapeCast S1x128 (m ((c.tc : Thread nD τ).loc main_arg5) : FVec Ideal S2x64 .f32) shapeCasts_S2x64_S1x128 : FVec Ideal S1x128 .f32) := by
  simp only [V, V0, hostOps0, List.flatten_cons, List.flatten_nil, List.append_nil]
  after_results_simp <;> rfl

/-- The unary gates as the region finds them. -/
theorem V_main_v21 : V m c main_v21 = (shapeCast S1x128 (m ((c.tc : Thread nD τ).loc main_arg6) : FVec Ideal S2x64 .f32) shapeCasts_S2x64_S1x128 : FVec Ideal S1x128 .f32) := by
  simp only [V, V0, hostOps0, List.flatten_cons, List.flatten_nil, List.append_nil]
  after_results_simp <;> rfl

/-- The binary gates as the region finds them. -/
theorem V_main_v22 : V m c main_v22 = (shapeCast S1x128 (m ((c.tc : Thread nD τ).loc main_arg7) : FVec Ideal S2x64 .f32) shapeCasts_S2x64_S1x128 : FVec Ideal S1x128 .f32) := by
  simp only [V, V0, hostOps0, List.flatten_cons, List.flatten_nil, List.append_nil]
  after_results_simp <;> rfl

end Cert.Dnf

end

end
-- ==== Proof.Layout.lean ====
/- The laid-out weights read off the arguments. -/
module

public import proofs.«01_k».proof.Proof.Weights
public import proofs.«01_k».proof.Proof.Prefix

@[expose] public section

set_option maxRecDepth 16384

noncomputable section

namespace Cert.Dnf

open Idealize.ShloMosaic Cert.KernelIdeal

/-- The weights of a conjunct. -/
def wOf (a3 : FVec Ideal S6x64x208 .f32) (c : Fin 384) (d : Fin 208) : EReal :=
  a3 (ix3 (⟨c.val / 64, by omega⟩ : Fin 6) (⟨c.val % 64, by omega⟩ : Fin 64) d)
/-- The bias of a conjunct. -/
def biasOf (a4 : FVec Ideal S6x64 .f32) (c : Fin 384) : EReal := a4 (ix2 (⟨c.val / 64, by omega⟩ : Fin 6) (⟨c.val % 64, by omega⟩ : Fin 64))

variable (a3 : FVec Ideal S6x64x208 .f32) (a4 : FVec Ideal S6x64 .f32)

/-- A weight as the host program lays it out. -/
theorem wt_apply (d : Fin 208) (c : Fin 384) : wt a3 (ix2 d c) = wOf a3 c d := by
  unfold wOf
  pointwise [wt]

/-- The unary rows. -/
theorem wu_unary (d : Fin 32) (v : Fin 3) (c : Fin 384) :
    wuOf a3 a4 (ix2 (⟨d.val, by omega⟩ : Fin 49) (⟨384 * v.val + c.val, by omega⟩ : Fin 1152)) = wOf a3 c ⟨16 + 32 * v.val + d.val, by omega⟩ := by
  have hd := d.isLt
  have hc := c.isLt
  have hv := v.isLt
  rw [← wt_apply]
  pointwise [wuOf]
  repeat' split
  all_goals exact congrArg (wt a3) (congrArg₂ ix2 (Fin.ext (by simp only []; omega)) (Fin.ext (by simp only []; omega)))

/-- The nullary rows. -/
theorem wu_nullary (d : Fin 16) (c : Fin 384) :
    wuOf a3 a4 (ix2 (⟨32 + d.val, by omega⟩ : Fin 49) (⟨c.val, by omega⟩ : Fin 1152)) = wOf a3 c ⟨d.val, by omega⟩ := by
  have hd := d.isLt
  have hc := c.isLt
  rw [← wt_apply]
  pointwise [wuOf]

/-- The bias row. -/
theorem wu_bias (c : Fin 384) :
    wuOf a3 a4 (ix2 (⟨48, by omega⟩ : Fin 49) (⟨c.val, by omega⟩ : Fin 1152)) = biasOf a4 c := by
  have hc := c.isLt
  unfold biasOf
  pointwise [wuOf]

/-- The zero rows. -/
theorem wu_zero (d : Fin 17) (c : Fin 768) :
    wuOf a3 a4 (ix2 (⟨32 + d.val, by omega⟩ : Fin 49) (⟨384 + c.val, by omega⟩ : Fin 1152)) = (0 : EReal) := by
  have hd := d.isLt
  have hc := c.isLt
  pointwise [wuOf]

/-- The binary columns. -/
theorem wb_slot (d : Fin 16) (s : Fin 6) (c : Fin 384) :
    wbOf a3 (ix2 d (⟨384 * s.val + c.val, by omega⟩ : Fin 2304)) = wOf a3 c ⟨112 + 16 * (slot s).val + d.val, by omega⟩ := by
  have hc := c.isLt
  have hs := s.isLt
  have e : (slot s).val = if s.val = 2 then 3 else if s.val = 3 then 2 else s.val := by
    revert s
    decide
  rw [← wt_apply]
  pointwise [wbOf]
  repeat' split
  all_goals exact congrArg (wt a3) (congrArg₂ ix2 (Fin.ext (by simp only [e]; split <;> (try split) <;> omega)) (Fin.ext (by simp only []; omega)))

/-- An entry of a table of zeros and ones. -/
theorem ofBits_ite (p : Prop) [Decidable p] : Ideal.ofBits .f32 (if p then 0x3F800000#32 else 0#32) = if p then (1 : EReal) else 0 := by
  split
  · exact Ideal.ofBits_one_f32
  · exact Ideal.ofBits_zero_f32

/-- The permutation. -/
theorem pm_apply (o : Fin 12) (r : Fin 11) (q : Fin 132) : pmOf (ix2 (⟨11 * o.val + r.val, by omega⟩ : Fin 132) q)
    = if q = ⟨11 * (skip o r).val + (rank o r).val, by omega⟩ then (1 : EReal) else 0 := by
  have e : lit0 (S132x132.rowMajor (ix2 (⟨11 * o.val + r.val, by omega⟩ : Fin 132) q)) = lit0 ⟨132 * (11 * o.val + r.val) + q.val, by omega⟩ :=
    congrArg lit0 (Fin.ext ((Shape.rowMajor_val_two _).trans (by show (11 * o.val + r.val) * 132 + q.val = 132 * (11 * o.val + r.val) + q.val; omega)))
  refine (congrArg (Ideal.ofBits .f32) (e.trans (lit0_eq o r q))).trans ((ofBits_ite _).trans ?_)
  simp only [Fin.ext_iff]

/-- The selection's upper half. -/
theorem sl_upper (o : Fin 12) (r : Fin 11) (j : Fin 36) : slOf (ix2 (⟨11 * o.val + r.val, by omega⟩ : Fin 264) j)
    = if j = ⟨o.val, by omega⟩ ∨ j = ⟨12 + (skip o r).val, by omega⟩ then (1 : EReal) else 0 := by
  have e : lit1 (S264x36.rowMajor (ix2 (⟨11 * o.val + r.val, by omega⟩ : Fin 264) j)) = lit1 ⟨36 * (11 * o.val + r.val) + j.val, by omega⟩ :=
    congrArg lit1 (Fin.ext ((Shape.rowMajor_val_two _).trans (by show (11 * o.val + r.val) * 36 + j.val = 36 * (11 * o.val + r.val) + j.val; omega)))
  refine (congrArg (Ideal.ofBits .f32) (e.trans (lit1_upper o r j))).trans ((ofBits_ite _).trans ?_)
  simp only [Fin.ext_iff]

/-- The selection's lower half. -/
theorem sl_lower (o : Fin 12) (r : Fin 11) (j : Fin 36) : slOf (ix2 (⟨132 + (11 * o.val + r.val), by omega⟩ : Fin 264) j)
    = if j = ⟨24 + (skip o r).val, by omega⟩ then (1 : EReal) else 0 := by
  have e : lit1 (S264x36.rowMajor (ix2 (⟨132 + (11 * o.val + r.val), by omega⟩ : Fin 264) j)) = lit1 ⟨36 * (132 + (11 * o.val + r.val)) + j.val, by omega⟩ :=
    congrArg lit1 (Fin.ext ((Shape.rowMajor_val_two _).trans (by show (132 + (11 * o.val + r.val)) * 36 + j.val = 36 * (132 + (11 * o.val + r.val)) + j.val; omega)))
  refine (congrArg (Ideal.ofBits .f32) (e.trans (lit1_lower o r j))).trans ((ofBits_ite _).trans ?_)
  simp only [Fin.ext_iff]

/-- The host program's arrays hold the weights as the kernel reads them. -/
theorem weights : Weights (wOf a3) (biasOf a4) (wuOf a3 a4) (wbOf a3) pmOf slOf where
  unary := wu_unary a3 a4
  nullary := wu_nullary a3 a4
  biases := wu_bias a3 a4
  zeros := wu_zero a3 a4
  binary := wb_slot a3
  perm := pm_apply
  sel₁ := sl_upper
  sel₂ := sl_lower

end Cert.Dnf

end

end
-- ==== Proof.KRun.lean ====
/- The kernel's output arrays and results as functions of the arguments. -/
module

public import proofs.«01_k».proof.Proof.KOut
public import proofs.«01_k».proof.Proof.Layout

@[expose] public section

set_option maxRecDepth 16384

noncomputable section

namespace Cert.Dnf

open Idealize.ShloMosaic Cert.KernelIdeal Cert.KernelIdeal.Gen

variable (m : (ℓ : Loc nD τ sig) → Buf (Elt Ideal) ℓ) (c : Dev nD)

/-- The nullary facts. -/
def a0 : FVec Ideal S32x16 .f32 := m ((c.tc : Thread nD τ).loc main_arg0)
/-- The unary facts. -/
def a1 : FVec Ideal S32x12x32 .f32 := m ((c.tc : Thread nD τ).loc main_arg1)
/-- The binary facts. -/
def a2 : FVec Ideal S32x12x11x16 .f32 := m ((c.tc : Thread nD τ).loc main_arg2)
/-- The weights. -/
def a3 : FVec Ideal S6x64x208 .f32 := m ((c.tc : Thread nD τ).loc main_arg3)
/-- The biases. -/
def a4 : FVec Ideal S6x64 .f32 := m ((c.tc : Thread nD τ).loc main_arg4)
/-- The nullary gates. -/
def a5 : FVec Ideal S2x64 .f32 := m ((c.tc : Thread nD τ).loc main_arg5)
/-- The unary gates. -/
def a6 : FVec Ideal S2x64 .f32 := m ((c.tc : Thread nD τ).loc main_arg6)
/-- The binary gates. -/
def a7 : FVec Ideal S2x64 .f32 := m ((c.tc : Thread nD τ).loc main_arg7)

/-- The places of the blocks. -/
theorem places (t : Fin cfg0.N) : win0_0.index t = ![t.val, 0, 0] ∧ win0_1.index t = ![t.val, 0, 0] ∧ win0_2.index t = ![t.val, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0]
    ∧ win0_10.index t = ![t.val, 0, 0] ∧ win0_11.index t = ![t.val, 0, 0] ∧ win0_12.index t = ![t.val, 0, 0] ∧ win0_13.index t = ![t.val, 0, 0] := by
  revert t
  decide

/-- A point's number. -/
theorem point_lt (t : Fin cfg0.N) : t.val < 4 := t.isLt

/-- A point's nullary facts. -/
theorem blk0 (t : Fin cfg0.N) (b : Fin 8) (d : Fin 16) :
    iblk m c 0 t (ix3 b (0 : Fin 1) d) = a0 m c (ix2 (⟨8 * t.val + b.val, by have := point_lt t; omega⟩ : Fin 32) d) := by
  have h : iblk m c 0 t (ix3 b (0 : Fin 1) d) = V m c main_v23 (ix3 (⟨8 * t.val + b.val, by have := point_lt t; omega⟩ : Fin 32) (0 : Fin 1) d) := by
    blk_ext [iblk, places t]
  rw [h, V_main_v23]
  pointwise [a0]

/-- A point's unary facts. -/
theorem blk1 (t : Fin cfg0.N) (b : Fin 8) (o : Fin 12) (d : Fin 32) :
    iblk m c 1 t (ix3 b o d) = a1 m c (ix3 (⟨8 * t.val + b.val, by have := point_lt t; omega⟩ : Fin 32) o d) := by
  have h : iblk m c 1 t (ix3 b o d) = V m c main_arg1 (ix3 (⟨8 * t.val + b.val, by have := point_lt t; omega⟩ : Fin 32) o d) := by
    blk_ext [iblk, places t]
  rw [h, V_main_arg1]
  rfl

/-- The binary facts with their two object axes merged. -/
theorem cast_pairs (g : FVec Ideal S32x12x11x16 .f32) (b : Fin 32) (o : Fin 12) (r : Fin 11) (d : Fin 16) :
    (shapeCast S32x132x16 g shapeCasts_S32x12x11x16_S32x132x16) (ix3 b (⟨11 * o.val + r.val, by omega⟩ : Fin 132) d) = g (ix4 b o r d) := by
  have hr := r.isLt
  have ho := o.isLt
  pointwise []

/-- A point's binary facts. -/
theorem blk2 (t : Fin cfg0.N) (b : Fin 8) (o : Fin 12) (r : Fin 11) (d : Fin 16) :
    iblk m c 2 t (ix3 b (⟨11 * o.val + r.val, by omega⟩ : Fin 132) d)
      = a2 m c (ix4 (⟨8 * t.val + b.val, by have := point_lt t; omega⟩ : Fin 32) o r d) := by
  have h : iblk m c 2 t (ix3 b (⟨11 * o.val + r.val, by omega⟩ : Fin 132) d)
      = V m c main_v19 (ix3 (⟨8 * t.val + b.val, by have := point_lt t; omega⟩ : Fin 32) (⟨11 * o.val + r.val, by omega⟩ : Fin 132) d) := by
    blk_ext [iblk, places t]
  rw [h, V_main_v19]
  exact cast_pairs (a2 m c) _ o r d

/-- The whole augmented unary weights. -/
theorem blk3 (t : Fin cfg0.N) : iblk m c 3 t = wuOf (a3 m c) (a4 m c) := by
  refine Eq.trans (b := V m c main_v11) ?_ (V_main_v11 m c)
  funext i
  blk_ext [iblk, places t]

/-- The whole binary weights. -/
theorem blk4 (t : Fin cfg0.N) : iblk m c 4 t = wbOf (a3 m c) := by
  refine Eq.trans (b := V m c main_v18) ?_ (V_main_v18 m c)
  funext i
  blk_ext [iblk, places t]

/-- The whole permutation. -/
theorem blk5 (t : Fin cfg0.N) : iblk m c 5 t = pmOf := by
  refine Eq.trans (b := V m c main_cst) ?_ (V_main_cst m c)
  funext i
  blk_ext [iblk, places t]

/-- The whole selection. -/
theorem blk6 (t : Fin cfg0.N) : iblk m c 6 t = slOf := by
  refine Eq.trans (b := V m c main_cst_0) ?_ (V_main_cst_0 m c)
  funext i
  blk_ext [iblk, places t]

/-- The gates of a disjunction. -/
def gate (g : FVec Ideal S2x64 .f32) (l : Fin 128) : EReal := g (ix2 (⟨l.val / 64, by omega⟩ : Fin 2) (⟨l.val % 64, by omega⟩ : Fin 64))

/-- The gates with their two axes merged. -/
theorem cast_gate (g : FVec Ideal S2x64 .f32) (l : Fin 128) : (shapeCast S1x128 g shapeCasts_S2x64_S1x128) (ix2 (0 : Fin 1) l) = gate g l := by
  pointwise [gate]

/-- The whole nullary gates. -/
theorem blk7 (t : Fin cfg0.N) (l : Fin 128) : iblk m c 7 t (ix2 (0 : Fin 1) l) = gate (a5 m c) l := by
  have h : iblk m c 7 t (ix2 (0 : Fin 1) l) = V m c main_v20 (ix2 (0 : Fin 1) l) := by
    blk_ext [iblk, places t]
  rw [h, V_main_v20]
  exact cast_gate (a5 m c) l

/-- The whole unary gates. -/
theorem blk8 (t : Fin cfg0.N) (l : Fin 128) : iblk m c 8 t (ix2 (0 : Fin 1) l) = gate (a6 m c) l := by
  have h : iblk m c 8 t (ix2 (0 : Fin 1) l) = V m c main_v21 (ix2 (0 : Fin 1) l) := by
    blk_ext [iblk, places t]
  rw [h, V_main_v21]
  exact cast_gate (a6 m c) l

/-- The whole binary gates. -/
theorem blk9 (t : Fin cfg0.N) (l : Fin 128) : iblk m c 9 t (ix2 (0 : Fin 1) l) = gate (a7 m c) l := by
  have h : iblk m c 9 t (ix2 (0 : Fin 1) l) = V m c main_v22 (ix2 (0 : Fin 1) l) := by
    blk_ext [iblk, places t]
  rw [h, V_main_v22]
  exact cast_gate (a7 m c) l

/-! ## The results of the arguments -/

section Spec

variable (a0 : FVec Ideal S32x16 .f32) (a1 : FVec Ideal S32x12x32 .f32) (a2 : FVec Ideal S32x12x11x16 .f32) (a3 : FVec Ideal S6x64x208 .f32)
  (a4 : FVec Ideal S6x64 .f32) (g : FVec Ideal S2x64 .f32) (b : Fin 32)

/-- The conjunct of a batch row, three objects and a column. -/
def conjOf (o : Fin 12) (r : Fin 11) (k : Fin 10) (l : Fin 384) : EReal :=
  act (wOf a3) (biasOf a4) (fun d => a0 (ix2 b d)) (fun o d => a1 (ix3 b o d)) (fun o r d => a2 (ix4 b o r d)) o r k l
/-- The nullary result of a batch row. -/
def resN (i : Fin 2) : EReal :=
  disN (wOf a3) (biasOf a4) (fun d => a0 (ix2 b d)) (fun o d => a1 (ix3 b o d)) (fun o r d => a2 (ix4 b o r d)) (gate g) i
/-- The unary result of a batch row and an object. -/
def resU (o : Fin 12) (i : Fin 2) : EReal :=
  disU (wOf a3) (biasOf a4) (fun d => a0 (ix2 b d)) (fun o d => a1 (ix3 b o d)) (fun o r d => a2 (ix4 b o r d)) (gate g) o i
/-- The binary result of a batch row and two objects. -/
def resB (o : Fin 12) (r : Fin 11) (i : Fin 2) : EReal :=
  disB (wOf a3) (biasOf a4) (fun d => a0 (ix2 b d)) (fun o d => a1 (ix3 b o d)) (fun o r d => a2 (ix4 b o r d)) (gate g) o r i

end Spec

/-! ## The arrays -/

/-- A point's nullary facts, as a function. -/
theorem blk0_fun (t : Fin cfg0.N) (b : Fin 8) : (fun d : Fin 16 => (iblk m c 0 t (ix3 b (0 : Fin 1) d) : EReal))
    = fun d => a0 m c (ix2 (⟨8 * t.val + b.val, by have := point_lt t; omega⟩ : Fin 32) d) := funext (blk0 m c t b)

/-- A point's unary facts, as a function. -/
theorem blk1_fun (t : Fin cfg0.N) (b : Fin 8) : (fun (o : Fin 12) (d : Fin 32) => (iblk m c 1 t (ix3 b o d) : EReal))
    = fun o d => a1 m c (ix3 (⟨8 * t.val + b.val, by have := point_lt t; omega⟩ : Fin 32) o d) := funext fun o => funext (blk1 m c t b o)

/-- A point's binary facts, as a function. -/
theorem blk2_fun (t : Fin cfg0.N) (b : Fin 8) :
    (fun (o : Fin 12) (r : Fin 11) (d : Fin 16) => (iblk m c 2 t (ix3 b (⟨11 * o.val + r.val, by omega⟩ : Fin 132) d) : EReal))
    = fun o r d => a2 m c (ix4 (⟨8 * t.val + b.val, by have := point_lt t; omega⟩ : Fin 32) o r d) :=
  funext fun o => funext fun r => funext (blk2 m c t b o r)

/-- The conjuncts' array. -/
theorem arr10 : (dats (F := Ideal) m 0 c).arrAt 10 cfg0.N = fun i : S32x1320x384.Idx =>
    conjOf (a0 m c) (a1 m c) (a2 m c) (a3 m c) (a4 m c) (i 0) (rowO (i 1)) (rowR (i 1)) (rowK (i 1)) (i 2) := by
  refine (dats m 0 c).arrAt_eq_of_covers 10 _ (by decide +kernel) fun t hf y => ?_
  blk_simp
  rw [after0_10]
  obtain ⟨b, p, l, rfl⟩ : ∃ b p l, y = ix3 b p l := ⟨y 0, y 1, y 2, eq_ix3 y⟩
  have e : (win0_10.blk t).view.emb (ix3 b p l) = ix3 (⟨8 * t.val + b.val, by have := point_lt t; omega⟩ : Fin 32) p l := by
    blk_ext [places t]
  rw [e, blk3, blk4, blk5, blk6]
  refine (out10_apply (weights (a3 m c) (a4 m c)) _ _ _ _ _ _ b p l).trans ?_
  rw [blk0_fun, blk1_fun, blk2_fun]
  rfl

/-- The nullary results' array. -/
theorem arr11 : (dats (F := Ideal) m 0 c).arrAt 11 cfg0.N = fun i : S32x1x2.Idx =>
    resN (a0 m c) (a1 m c) (a2 m c) (a3 m c) (a4 m c) (a5 m c) (i 0) (i 2) := by
  refine (dats m 0 c).arrAt_eq_of_covers 11 _ (by decide +kernel) fun t hf y => ?_
  blk_simp
  rw [after0_11]
  obtain ⟨b, p, l, rfl⟩ : ∃ b p l, y = ix3 b p l := ⟨y 0, y 1, y 2, eq_ix3 y⟩
  obtain rfl : p = 0 := Subsingleton.elim _ _
  have e : (win0_11.blk t).view.emb (ix3 b (0 : Fin 1) l) = ix3 (⟨8 * t.val + b.val, by have := point_lt t; omega⟩ : Fin 32) (0 : Fin 1) l := by
    blk_ext [places t]
  rw [e, blk3, blk4, blk5, blk6]
  refine (out11_apply (weights (a3 m c) (a4 m c)) _ _ _ _ _ _ b l).trans ?_
  rw [blk0_fun, blk1_fun, blk2_fun, funext (blk7 m c t)]
  rfl

/-- The unary results' array. -/
theorem arr12 : (dats (F := Ideal) m 0 c).arrAt 12 cfg0.N = fun i : S32x12x2.Idx =>
    resU (a0 m c) (a1 m c) (a2 m c) (a3 m c) (a4 m c) (a6 m c) (i 0) (i 1) (i 2) := by
  refine (dats m 0 c).arrAt_eq_of_covers 12 _ (by decide +kernel) fun t hf y => ?_
  blk_simp
  rw [after0_12]
  obtain ⟨b, p, l, rfl⟩ : ∃ b p l, y = ix3 b p l := ⟨y 0, y 1, y 2, eq_ix3 y⟩
  have e : (win0_12.blk t).view.emb (ix3 b p l) = ix3 (⟨8 * t.val + b.val, by have := point_lt t; omega⟩ : Fin 32) p l := by
    blk_ext [places t]
  rw [e, blk3, blk4, blk5, blk6]
  refine (out12_apply (weights (a3 m c) (a4 m c)) _ _ _ _ _ _ b p l).trans ?_
  rw [blk0_fun, blk1_fun, blk2_fun, funext (blk8 m c t)]
  rfl

/-- The binary results' array. -/
theorem arr13 : (dats (F := Ideal) m 0 c).arrAt 13 cfg0.N = fun i : S32x132x2.Idx =>
    resB (a0 m c) (a1 m c) (a2 m c) (a3 m c) (a4 m c) (a7 m c) (i 0) (pairO (i 1)) (pairR (i 1)) (i 2) := by
  refine (dats m 0 c).arrAt_eq_of_covers 13 _ (by decide +kernel) fun t hf y => ?_
  blk_simp
  rw [after0_13]
  obtain ⟨b, p, l, rfl⟩ : ∃ b p l, y = ix3 b p l := ⟨y 0, y 1, y 2, eq_ix3 y⟩
  have e : (win0_13.blk t).view.emb (ix3 b p l) = ix3 (⟨8 * t.val + b.val, by have := point_lt t; omega⟩ : Fin 32) p l := by
    blk_ext [places t]
  rw [e, blk3, blk4, blk5, blk6]
  refine (out13_apply (weights (a3 m c) (a4 m c)) _ _ _ _ _ _ b p l).trans ?_
  rw [blk0_fun, blk1_fun, blk2_fun, funext (blk9 m c t)]
  rfl

end Cert.Dnf

end

end
-- ==== Proof.KTail.lean ====
/- The kernel's four results after the host program's last lines. -/
module

public import proofs.«01_k».proof.Proof.KRun

@[expose] public section

set_option maxRecDepth 16384

noncomputable section

namespace Cert.Dnf

open Idealize.ShloMosaic Cert.KernelIdeal Cert.KernelIdeal.Gen

/-- The conjuncts' array with its columns split. -/
theorem cast_conj (x : FVec Ideal S32x1320x384 .bf16) (b : Fin 32) (p : Fin 1320) (r : Fin 6) (l : Fin 64) :
    (extf (F := Ideal) .f32 (shapeCast S32x1320x6x64 x shapeCasts_S32x1320x384_S32x1320x6x64) bitsLt_bf16_f32) (ix4 b p r l)
      = x (ix3 b p (⟨64 * r.val + l.val, by omega⟩ : Fin 384)) := by
  have hr := r.isLt
  have hl := l.isLt
  pointwise []
  rw [show (⟨r.val * 64 + l.val, by omega⟩ : Fin 384) = ⟨64 * r.val + l.val, by omega⟩ from Fin.ext (by show r.val * 64 + l.val = 64 * r.val + l.val; omega)]

/-- The binary results' array with its rows split. -/
theorem cast_resB (x : FVec Ideal S32x132x2 .f32) (b : Fin 32) (o : Fin 12) (r : Fin 11) (i : Fin 2) :
    (shapeCast S32x12x11x2 x shapeCasts_S32x132x2_S32x12x11x2) (ix4 b o r i)
      = x (ix3 b (⟨11 * o.val + r.val, by omega⟩ : Fin 132) i) := by
  have hr := r.isLt
  have ho := o.isLt
  pointwise []
  rw [show (⟨o.val * 11 + r.val, by omega⟩ : Fin 132) = ⟨11 * o.val + r.val, by omega⟩ from Fin.ext (by show o.val * 11 + r.val = 11 * o.val + r.val; omega)]

/-- The nullary results' array without its unit axis. -/
theorem cast_resN (x : FVec Ideal S32x1x2 .f32) (b : Fin 32) (i : Fin 2) :
    (shapeCast S32x2 x shapeCasts_S32x1x2_S32x2) (ix2 b i) = x (ix3 b (0 : Fin 1) i) := by
  pointwise []

variable (m : (ℓ : Loc nD τ sig) → Buf (Elt Ideal) ℓ) (c : Dev nD)

/-- The windows' arrays are different buffers. -/
theorem arr_inj : Function.Injective (Pipeline.arrRef spec0) := by decide

/-- The region's exit. -/
abbrev exitV : Valuation τ sig (Elt Ideal) :=
  Pipeline.withArrays (cfgs 0).spec c (V0 m c) fun w => (dats (F := Ideal) m 0 c).arrAt w (cfgs 0).N

/-- The conjuncts at the exit. -/
theorem exit10 : exitV m c (Proc.devRef .tc main_v24_0) = fun i : S32x1320x384.Idx =>
    conjOf (a0 m c) (a1 m c) (a2 m c) (a3 m c) (a4 m c) (i 0) (rowO (i 1)) (rowR (i 1)) (rowK (i 1)) (i 2) :=
  (Pipeline.withArrays_arr spec0 arr_inj c (V0 m c) _ 10).trans (arr10 m c)
/-- The nullary results at the exit. -/
theorem exit11 : exitV m c (Proc.devRef .tc main_v24_1) = fun i : S32x1x2.Idx =>
    resN (a0 m c) (a1 m c) (a2 m c) (a3 m c) (a4 m c) (a5 m c) (i 0) (i 2) :=
  (Pipeline.withArrays_arr spec0 arr_inj c (V0 m c) _ 11).trans (arr11 m c)
/-- The binary results at the exit. -/
theorem exit13 : exitV m c (Proc.devRef .tc main_v24_3) = fun i : S32x132x2.Idx =>
    resB (a0 m c) (a1 m c) (a2 m c) (a3 m c) (a4 m c) (a7 m c) (i 0) (pairO (i 1)) (pairR (i 1)) (i 2) :=
  (Pipeline.withArrays_arr spec0 arr_inj c (V0 m c) _ 13).trans (arr13 m c)

/-- The conjuncts, as they are returned. -/
theorem tail26 (b : Fin 32) (o : Fin 12) (r : Fin 11) (k : Fin 10) (q : Fin 6) (l : Fin 64) :
    (Pipeline.afterTail₀ cfgs (dats (F := Ideal) m) 0 (V0 m) [hostOps1] c main_v26 : FVec Ideal S32x1320x6x64 .f32)
      (ix4 b (⟨110 * o.val + 10 * r.val + k.val, by omega⟩ : Fin 1320) q l)
      = conjOf (a0 m c) (a1 m c) (a2 m c) (a3 m c) (a4 m c) b o r k ⟨64 * q.val + l.val, by omega⟩ := by
  have e : (Pipeline.afterTail₀ cfgs (dats (F := Ideal) m) 0 (V0 m) [hostOps1] c main_v26 : FVec Ideal S32x1320x6x64 .f32)
      = extf (F := Ideal) .f32 (shapeCast S32x1320x6x64 (exitV m c (Proc.devRef .tc main_v24_0) : FVec Ideal S32x1320x384 .bf16)
          shapeCasts_S32x1320x384_S32x1320x6x64) bitsLt_bf16_f32 := by
    show StableHlo.after _ (exitV m c) _ = _
    generalize exitV m c = X
    simp only [hostOps1, List.flatten_cons, List.flatten_nil, List.append_nil]
    after_results_simp <;> rfl
  rw [e, cast_conj, exit10]
  have e0 : rowO (⟨110 * o.val + 10 * r.val + k.val, by omega⟩ : Fin 1320) = o := Fin.ext (by show (110 * o.val + 10 * r.val + k.val) / 110 = o.val; omega)
  have e1 : rowR (⟨110 * o.val + 10 * r.val + k.val, by omega⟩ : Fin 1320) = r := Fin.ext (by show (110 * o.val + 10 * r.val + k.val) % 110 / 10 = r.val; omega)
  have e2 : rowK (⟨110 * o.val + 10 * r.val + k.val, by omega⟩ : Fin 1320) = k := Fin.ext (by show (110 * o.val + 10 * r.val + k.val) % 10 = k.val; omega)
  show conjOf _ _ _ _ _ b (rowO ⟨110 * o.val + 10 * r.val + k.val, _⟩) (rowR ⟨110 * o.val + 10 * r.val + k.val, _⟩) (rowK ⟨110 * o.val + 10 * r.val + k.val, _⟩) _ = _
  rw [e0, e1, e2]
  rfl

/-- The binary results, as they are returned. -/
theorem tail27 (b : Fin 32) (o : Fin 12) (r : Fin 11) (i : Fin 2) :
    (Pipeline.afterTail₀ cfgs (dats (F := Ideal) m) 0 (V0 m) [hostOps1] c main_v27 : FVec Ideal S32x12x11x2 .f32) (ix4 b o r i)
      = resB (a0 m c) (a1 m c) (a2 m c) (a3 m c) (a4 m c) (a7 m c) b o r i := by
  have e : (Pipeline.afterTail₀ cfgs (dats (F := Ideal) m) 0 (V0 m) [hostOps1] c main_v27 : FVec Ideal S32x12x11x2 .f32)
      = shapeCast S32x12x11x2 (exitV m c (Proc.devRef .tc main_v24_3) : FVec Ideal S32x132x2 .f32) shapeCasts_S32x132x2_S32x12x11x2 := by
    show StableHlo.after _ (exitV m c) _ = _
    generalize exitV m c = X
    simp only [hostOps1, List.flatten_cons, List.flatten_nil, List.append_nil]
    after_results_simp <;> rfl
  rw [e, cast_resB, exit13]
  have e0 : pairO (⟨11 * o.val + r.val, by omega⟩ : Fin 132) = o := Fin.ext (by show (11 * o.val + r.val) / 11 = o.val; omega)
  have e1 : pairR (⟨11 * o.val + r.val, by omega⟩ : Fin 132) = r := Fin.ext (by show (11 * o.val + r.val) % 11 = r.val; omega)
  show resB _ _ _ _ _ _ b (pairO ⟨11 * o.val + r.val, _⟩) (pairR ⟨11 * o.val + r.val, _⟩) i = _
  rw [e0, e1]

/-- The nullary results, as they are returned. -/
theorem tail28 (b : Fin 32) (i : Fin 2) :
    (Pipeline.afterTail₀ cfgs (dats (F := Ideal) m) 0 (V0 m) [hostOps1] c main_v28 : FVec Ideal S32x2 .f32) (ix2 b i)
      = resN (a0 m c) (a1 m c) (a2 m c) (a3 m c) (a4 m c) (a5 m c) b i := by
  have e : (Pipeline.afterTail₀ cfgs (dats (F := Ideal) m) 0 (V0 m) [hostOps1] c main_v28 : FVec Ideal S32x2 .f32)
      = shapeCast S32x2 (exitV m c (Proc.devRef .tc main_v24_1) : FVec Ideal S32x1x2 .f32) shapeCasts_S32x1x2_S32x2 := by
    show StableHlo.after _ (exitV m c) _ = _
    generalize exitV m c = X
    simp only [hostOps1, List.flatten_cons, List.flatten_nil, List.append_nil]
    after_results_simp <;> rfl
  rw [e, cast_resN, exit11]
  rfl

end Cert.Dnf

end

end
-- ==== Proof.RTables.lean ====
/- The reference's index tables: the objects of a row, and the object and the rank of each of its six pairs. -/
module

public import proofs.«01_k».proof.Proof.Spec
public import proofs.«01_k».proof.Proof.Gen.ReferenceIdeal

@[expose] public section

set_option maxRecDepth 16384

noncomputable section

namespace Cert.Dnf

open Cert.ReferenceIdeal

/-- The object of a variable. -/
def objOf (o : Fin 12) (r : Fin 11) (k : Fin 10) : Fin 3 → Fin 12 := ![o, skip o r, skip o (skipR r k)]
/-- The first object of a pair of variables. -/
def fstOf (o : Fin 12) (r : Fin 11) (k : Fin 10) : Fin 6 → Fin 12 :=
  ![o, o, skip o r, skip o r, skip o (skipR r k), skip o (skipR r k)]
/-- The rank of the second object of a pair of variables. -/
def sndOf (o : Fin 12) (r : Fin 11) (k : Fin 10) : Fin 6 → Fin 11 :=
  ![r, skipR r k, rank o r, skipR (rank o r) k, rank o (skipR r k), rank (skip o r) (skipR (rank o r) k)]

/-- The third object is reached from the second one too. -/
theorem skip_skip : ∀ (o : Fin 12) (r : Fin 11) (k : Fin 10), skip (skip o r) (skipR (rank o r) k) = skip o (skipR r k) := by
  decide +kernel

/-- The objects' table. -/
theorem objs_eq : ∀ (o : Fin 12) (r : Fin 11) (k : Fin 10) (v : Fin 3), lit0 ⟨3 * (110 * o.val + 10 * r.val + k.val) + v.val, by omega⟩
    = BitVec.ofNat 32 (objOf o r k v).val := by
  decide +kernel

/-- The table of the pairs' first objects. -/
theorem fsts_eq : ∀ (o : Fin 12) (r : Fin 11) (k : Fin 10) (s : Fin 6), lit1 ⟨6 * (110 * o.val + 10 * r.val + k.val) + s.val, by omega⟩
    = BitVec.ofNat 32 (fstOf o r k s).val := by
  decide +kernel

/-- The table of the pairs' second objects' ranks. -/
theorem snds_eq : ∀ (o : Fin 12) (r : Fin 11) (k : Fin 10) (s : Fin 6), lit2 ⟨6 * (110 * o.val + 10 * r.val + k.val) + s.val, by omega⟩
    = BitVec.ofNat 32 (sndOf o r k s).val := by
  decide +kernel

end Cert.Dnf

end

end
-- ==== Proof.RRead.lean ====
/- The reference's conjuncts at an index. -/
module

public import proofs.«01_k».proof.Proof.RTables
public import proofs.«01_k».proof.Proof.Layout

@[expose] public section

set_option maxRecDepth 16384

noncomputable section

namespace Cert.Dnf

open Idealize.ShloMosaic Cert.ReferenceIdeal Cert.ReferenceIdeal.Gen

/-! ## The reference's parts -/

/-- The objects' table. -/
def objs : Vec Ideal S1320x3 .i32 := fun i => lit0 (S1320x3.rowMajor i)
/-- The pairs' first objects. -/
def fsts : Vec Ideal S1320x3x2 .i32 := fun i => lit1 (S1320x3x2.rowMajor i)
/-- The pairs' second objects' ranks. -/
def snds : Vec Ideal S1320x3x2 .i32 := fun i => lit2 (S1320x3x2.rowMajor i)

/-- The objects' places. -/
def objIdx : Vec Ideal S1320x3x1 .i32 :=
  broadcastInDim S1320x3x1 ![0, 1] bcast_S1320x3_S1320x3x1_0_1
    (select (cmpi .slt objs (broadcastInDim S1320x3 ![] bcast_S_S1320x3 (constantI S_ 32 0#32)))
      (addi objs (broadcastInDim S1320x3 ![] bcast_S_S1320x3 (constantI S_ 32 12#32))) objs)

/-- The pairs' places. -/
def pairIdx : Vec Ideal S1320x3x2x2 .i32 :=
  concatenate S1320x3x2x2 3
    [⟨S1320x3x2x1, broadcastInDim S1320x3x2x1 ![0, 1, 2] bcast_S1320x3x2_S1320x3x2x1_0_1_2
      (select (constantI S1320x3x2 1 0#1) (addi fsts (broadcastInDim S1320x3x2 ![] bcast_S_S1320x3x2 (constantI S_ 32 12#32))) fsts)⟩,
     ⟨S1320x3x2x1, broadcastInDim S1320x3x2x1 ![0, 1, 2] bcast_S1320x3x2_S1320x3x2x1_0_1_2
      (select (constantI S1320x3x2 1 0#1) (addi snds (broadcastInDim S1320x3x2 ![] bcast_S_S1320x3x2 (constantI S_ 32 11#32))) snds)⟩]
    concatenates_S1320x3x2x1_S1320x3x2x1_S1320x3x2x2_d3

/-- The nullary facts of each row. -/
def rNul (a0 : FVec Ideal S32x16 .f32) : FVec Ideal S32x1320x16 .f32 :=
  shapeCast S32x1320x16 (broadcastInDim S32x1x1320x16 ![0, 1, 3] bcast_S32x1x16_S32x1x1320x16_0_1_3
    (broadcastInDim S32x1x16 ![0, 2] bcast_S32x16_S32x1x16_0_2 a0)) shapeCasts_S32x1x1320x16_S32x1320x16

/-- Whether the objects' places are inside the array. -/
def rMask : Vec Ideal S1320x3 .i1 :=
  Host.reduce IntOp.andi
    (andi (cmpi .sge objIdx (broadcastInDim S1320x3x1 ![] bcast_S_S1320x3x1 (constantI S_ 32 0#32)))
      (cmpi .sle objIdx (broadcastInDim S1320x3x1 ![0, 1, 2] bcast_S1x1x1_S1320x3x1_0_1_2 (broadcastInDim S1x1x1 ![2] bcast_S1_S1x1x1_2 (constantI S1 32 11#32)))))
    (constantI S_ 1 1#1) reducesTo_S1320x3x1_S1320x3_d2 h_S_

/-- The unary facts of each row and variable. -/
def rUna (a1 : FVec Ideal S32x12x32 .f32) : FVec Ideal S32x1320x3x32 .f32 :=
  select (broadcastInDim S32x1320x3x32 ![1, 2] bcast_S1320x3_S32x1320x3x32_1_2 rMask)
    (Host.gather gather_S32x12x32_S1320x3x1_S32x1320x3x32_03_1_n_n_1_2_32132 a1 objIdx)
    (broadcastInDim S32x1320x3x32 ![] bcast_S_S32x1320x3x32 (constant S_ .f32 0x7FC00000#32))

/-- The binary facts of each row and pair of variables. -/
def rBin (a2 : FVec Ideal S32x12x11x16 .f32) : FVec Ideal S32x1320x3x2x16 .f32 :=
  Host.gather gather_S32x12x11x16_S1320x3x2x2_S32x1320x3x2x16_04_12_n_n_12_3_321116 a2 pairIdx

/-- The facts of each row. -/
def rFacts (a0 : FVec Ideal S32x16 .f32) (a1 : FVec Ideal S32x12x32 .f32) (a2 : FVec Ideal S32x12x11x16 .f32) : FVec Ideal S32x1320x208 .f32 :=
  concatenate S32x1320x208 2
    [⟨S32x1320x16, rNul a0⟩, ⟨S32x1320x96, shapeCast S32x1320x96 (rUna a1) shapeCasts_S32x1320x3x32_S32x1320x96⟩,
     ⟨S32x1320x96, shapeCast S32x1320x96 (rBin a2) shapeCasts_S32x1320x3x2x16_S32x1320x96⟩]
    concatenates_S32x1320x16_S32x1320x96_S32x1320x96_S32x1320x208_d2

/-- The conjuncts. -/
def rConj (a0 : FVec Ideal S32x16 .f32) (a1 : FVec Ideal S32x12x32 .f32) (a2 : FVec Ideal S32x12x11x16 .f32) (a3 : FVec Ideal S6x64x208 .f32)
    (a4 : FVec Ideal S6x64 .f32) : FVec Ideal S32x1320x6x64 .f32 :=
  Host.tanh (addf (Host.dotGeneral dot_S32x1320x208_S6x64x208_S32x1320x6x64_2_2_01_01_n_n none (rFacts a0 a1 a2) a3)
    (broadcastInDim S32x1320x6x64 ![0, 1, 2, 3] bcast_S1x1x6x64_S32x1320x6x64_0_1_2_3 (broadcastInDim S1x1x6x64 ![2, 3] bcast_S6x64_S1x1x6x64_2_3 a4)))

/-! ## The places -/

/-- A row of three objects. -/
abbrev row (o : Fin 12) (r : Fin 11) (k : Fin 10) : Fin 1320 := ⟨110 * o.val + 10 * r.val + k.val, by omega⟩

/-- The objects' table at a row and a variable. -/
theorem objs_apply (o : Fin 12) (r : Fin 11) (k : Fin 10) (v : Fin 3) : objs (ix2 (row o r k) v) = BitVec.ofNat 32 (objOf o r k v).val := by
  refine (congrArg lit0 (Fin.ext ((Shape.rowMajor_val_two _).trans ?_))).trans (objs_eq o r k v)
  show (110 * o.val + 10 * r.val + k.val) * 3 + v.val = 3 * (110 * o.val + 10 * r.val + k.val) + v.val
  omega

/-- The pairs' first objects at a row and a pair. -/
theorem fsts_apply (o : Fin 12) (r : Fin 11) (k : Fin 10) (v : Fin 3) (w : Fin 2) :
    fsts (ix3 (row o r k) v w) = BitVec.ofNat 32 (fstOf o r k ⟨2 * v.val + w.val, by omega⟩).val := by
  refine (congrArg lit1 (Fin.ext ((Shape.rowMajor_val_three _).trans ?_))).trans (fsts_eq o r k ⟨2 * v.val + w.val, by omega⟩)
  simp
  omega

/-- The pairs' second objects' ranks at a row and a pair. -/
theorem snds_apply (o : Fin 12) (r : Fin 11) (k : Fin 10) (v : Fin 3) (w : Fin 2) :
    snds (ix3 (row o r k) v w) = BitVec.ofNat 32 (sndOf o r k ⟨2 * v.val + w.val, by omega⟩).val := by
  refine (congrArg lit2 (Fin.ext ((Shape.rowMajor_val_three _).trans ?_))).trans (snds_eq o r k ⟨2 * v.val + w.val, by omega⟩)
  simp
  omega

/-- An object's place is not negative, and inside the array. -/
theorem word_obj : ∀ n : Fin 12, IntOp.cmpi .slt (BitVec.ofNat 32 n.val) 0#32 = 0#1 ∧ IntOp.cmpi .sge (BitVec.ofNat 32 n.val) 0#32 = 1#1
    ∧ IntOp.cmpi .sle (BitVec.ofNat 32 n.val) 11#32 = 1#1 := by
  decide

/-- A small word, read signed. -/
theorem word_int : ∀ n : Fin 12, (BitVec.ofNat 32 n.val).toInt.toNat = n.val := by
  decide

/-- The objects' places at a row and a variable. -/
theorem objIdx_apply (o : Fin 12) (r : Fin 11) (k : Fin 10) (v : Fin 3) :
    objIdx (ix3 (row o r k) v (0 : Fin 1)) = BitVec.ofNat 32 (objOf o r k v).val := by
  pointwise [objIdx]
  have h := objs_apply o r k v
  rw [h, (word_obj _).1]
  rfl

/-- The mask is set everywhere. -/
theorem rMask_apply (o : Fin 12) (r : Fin 11) (k : Fin 10) (v : Fin 3) : rMask (ix2 (row o r k) v) = 1#1 := by
  pointwise [rMask]
  rw [Finset.univ_unique, Finset.fold_singleton]
  have h := objIdx_apply o r k v
  rw [show (default : Fin 1) = 0 from rfl, h, (word_obj _).2.1, (word_obj _).2.2]
  rfl

/-- The gather of an object's facts reads them at the object's place. -/
theorem gather_obj (x : FVec Ideal S32x12x32 .f32) (idx : IVec S1320x3x1 32) (b : Fin 32) (p : Fin 1320) (v : Fin 3) (d : Fin 32) (n : Fin 12)
    (hn : idx (ix3 p v (0 : Fin 1)) = BitVec.ofNat 32 n.val) :
    Host.gather gather_S32x12x32_S1320x3x1_S32x1320x3x32_03_1_n_n_1_2_32132 x idx (ix4 b p v d) = x (ix3 b n d) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil]
  have ha : ∀ a : Fin 3, a = 0 ∨ a = 1 ∨ a = 2 := by decide
  rcases ha a with rfl | rfl | rfl
  · unfold GatherDims.start
    rw [dif_neg (by decide)]
    exact (Nat.zero_add _)
  · rw [GatherDims.offCoord_eq_zero _ _ _ (by decide)]
    unfold GatherDims.start
    rw [dif_pos (by decide)]
    have hsi : GatherDims.siIdx gather_S32x12x32_S1320x3x1_S32x1320x3x32_03_1_n_n_1_2_32132 (ix4 b p v d) ⟨0, by decide⟩ = ix3 p v (0 : Fin 1) := by
      funext a'
      refine Fin.ext ?_
      match a' with
      | ⟨0, _⟩ => rfl
      | ⟨1, _⟩ => rfl
      | ⟨2, _⟩ => rfl
    refine (congrArg (fun z : BitVec 32 => min z.toInt.toNat 11) ((congrArg idx hsi).trans hn)).trans ?_
    show min (BitVec.ofNat 32 n.val).toInt.toNat 11 = n.val
    rw [word_int]
    omega
  · unfold GatherDims.start
    rw [dif_neg (by decide)]
    exact (Nat.zero_add _)

/-- The unary facts at a row and a variable. -/
theorem rUna_apply (a1 : FVec Ideal S32x12x32 .f32) (b : Fin 32) (o : Fin 12) (r : Fin 11) (k : Fin 10) (v : Fin 3) (d : Fin 32) :
    rUna a1 (ix4 b (row o r k) v d) = a1 (ix3 b (objOf o r k v) d) := by
  pointwise [rUna]
  have h := rMask_apply o r k v
  rw [h]
  exact gather_obj a1 objIdx b (row o r k) v d _ (objIdx_apply o r k v)

/-- The pairs' places. -/
theorem pairIdx_apply (o : Fin 12) (r : Fin 11) (k : Fin 10) (v : Fin 3) (w : Fin 2) :
    pairIdx (ix4 (row o r k) v w (0 : Fin 2)) = fsts (ix3 (row o r k) v w) ∧ pairIdx (ix4 (row o r k) v w (1 : Fin 2)) = snds (ix3 (row o r k) v w) := by
  constructor
  · pointwise [pairIdx]
  · pointwise [pairIdx]

/-- The gather of a pair's facts reads them at the pair's place. -/
theorem gather_pair (x : FVec Ideal S32x12x11x16 .f32) (idx : IVec S1320x3x2x2 32) (b : Fin 32) (p : Fin 1320) (v : Fin 3) (w : Fin 2) (d : Fin 16)
    (n : Fin 12) (q : Fin 11) (hn : idx (ix4 p v w (0 : Fin 2)) = BitVec.ofNat 32 n.val) (hq : idx (ix4 p v w (1 : Fin 2)) = BitVec.ofNat 32 q.val) :
    Host.gather gather_S32x12x11x16_S1320x3x2x2_S32x1320x3x2x16_04_12_n_n_12_3_321116 x idx (ix5 b p v w d) = x (ix4 b n q d) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil]
  have hsi : ∀ e : Fin 2, GatherDims.siIdx gather_S32x12x11x16_S1320x3x2x2_S32x1320x3x2x16_04_12_n_n_12_3_321116 (ix5 b p v w d) ⟨e.val, e.isLt⟩
      = ix4 p v w e := by
    intro e
    funext a'
    refine Fin.ext ?_
    match a' with
    | ⟨0, _⟩ => rfl
    | ⟨1, _⟩ => rfl
    | ⟨2, _⟩ => rfl
    | ⟨3, _⟩ => rfl
  have ha : ∀ a : Fin 4, a = 0 ∨ a = 1 ∨ a = 2 ∨ a = 3 := by decide
  rcases ha a with rfl | rfl | rfl | rfl
  · unfold GatherDims.start
    rw [dif_neg (by decide)]
    exact (Nat.zero_add _)
  · rw [GatherDims.offCoord_eq_zero _ _ _ (by decide)]
    unfold GatherDims.start
    rw [dif_pos (by decide)]
    refine (congrArg (fun z : BitVec 32 => min z.toInt.toNat 11) ((congrArg idx (hsi 0)).trans hn)).trans ?_
    show min (BitVec.ofNat 32 n.val).toInt.toNat 11 = n.val
    rw [word_int]
    omega
  · rw [GatherDims.offCoord_eq_zero _ _ _ (by decide)]
    unfold GatherDims.start
    rw [dif_pos (by decide)]
    refine (congrArg (fun z : BitVec 32 => min z.toInt.toNat 10) ((congrArg idx (hsi 1)).trans hq)).trans ?_
    show min (BitVec.ofNat 32 q.val).toInt.toNat 10 = q.val
    have h := word_int ⟨q.val, by omega⟩
    rw [h]
    show min q.val 10 = q.val
    omega
  · unfold GatherDims.start
    rw [dif_neg (by decide)]
    exact (Nat.zero_add _)

/-- The binary facts at a row and a pair. -/
theorem rBin_apply (a2 : FVec Ideal S32x12x11x16 .f32) (b : Fin 32) (o : Fin 12) (r : Fin 11) (k : Fin 10) (v : Fin 3) (w : Fin 2) (d : Fin 16) :
    rBin a2 (ix5 b (row o r k) v w d) = a2 (ix4 b (fstOf o r k ⟨2 * v.val + w.val, by omega⟩) (sndOf o r k ⟨2 * v.val + w.val, by omega⟩) d) :=
  gather_pair a2 pairIdx b (row o r k) v w d _ _ ((pairIdx_apply o r k v w).1.trans (fsts_apply o r k v w))
    ((pairIdx_apply o r k v w).2.trans (snds_apply o r k v w))

/-! ## The facts of a row -/

/-- The nullary range. -/
theorem rFacts_nul (a0 : FVec Ideal S32x16 .f32) (a1 : FVec Ideal S32x12x32 .f32) (a2 : FVec Ideal S32x12x11x16 .f32) (b : Fin 32) (p : Fin 1320) (d : Fin 16) :
    rFacts a0 a1 a2 (ix3 b p (⟨d.val, by omega⟩ : Fin 208)) = a0 (ix2 b d) := by
  have h : rFacts a0 a1 a2 (ix3 b p (⟨d.val, by omega⟩ : Fin 208)) = rNul a0 (ix3 b p d) := by
    unfold rFacts
    generalize rNul a0 = x
    generalize rUna a1 = y
    generalize rBin a2 = z
    pointwise []
  rw [h]
  pointwise [rNul]

/-- The unary range. -/
theorem rFacts_una (a0 : FVec Ideal S32x16 .f32) (a1 : FVec Ideal S32x12x32 .f32) (a2 : FVec Ideal S32x12x11x16 .f32) (b : Fin 32)
    (o : Fin 12) (r : Fin 11) (k : Fin 10) (v : Fin 3) (d : Fin 32) :
    rFacts a0 a1 a2 (ix3 b (row o r k) (⟨16 + 32 * v.val + d.val, by omega⟩ : Fin 208)) = a1 (ix3 b (objOf o r k v) d) := by
  rw [← rUna_apply a1 b o r k v d]
  generalize row o r k = p
  unfold rFacts
  generalize rNul a0 = x
  generalize rUna a1 = y
  generalize rBin a2 = z
  pointwise []
  rw [dif_neg (by omega), dif_pos (by omega)]
  exact congrArg y (congrArg₂ (fun a c => ix4 b p a c) (Fin.ext (by simp only []; omega)) (Fin.ext (by simp only []; omega)))

/-- The binary range. -/
theorem rFacts_bin (a0 : FVec Ideal S32x16 .f32) (a1 : FVec Ideal S32x12x32 .f32) (a2 : FVec Ideal S32x12x11x16 .f32) (b : Fin 32)
    (o : Fin 12) (r : Fin 11) (k : Fin 10) (v : Fin 3) (w : Fin 2) (d : Fin 16) :
    rFacts a0 a1 a2 (ix3 b (row o r k) (⟨112 + 16 * (2 * v.val + w.val) + d.val, by omega⟩ : Fin 208))
      = a2 (ix4 b (fstOf o r k ⟨2 * v.val + w.val, by omega⟩) (sndOf o r k ⟨2 * v.val + w.val, by omega⟩) d) := by
  rw [← rBin_apply a2 b o r k v w d]
  generalize row o r k = p
  unfold rFacts
  generalize rNul a0 = x
  generalize rUna a1 = y
  generalize rBin a2 = z
  pointwise []
  rw [dif_neg (by omega), dif_neg (by omega)]
  have e1 : (112 + 16 * (2 * v.val + w.val) + d.val - 16 - 96) / 32 = v.val := by omega
  have e2 : (112 + 16 * (2 * v.val + w.val) + d.val - 16 - 96) / 16 % 2 = w.val := by omega
  have e3 : (112 + 16 * (2 * v.val + w.val) + d.val - 16 - 96) % 16 = d.val := by omega
  simp only [e1, e2, e3]

/-! ## The conjuncts -/

/-- A sum over the facts as one over each range. -/
theorem sum_208 (f : Fin 208 → EReal) : ∑ j : Fin 208, f j
    = ∑ d : Fin 16, f ⟨d.val, by omega⟩ + ∑ v : Fin 3, ∑ d : Fin 32, f ⟨16 + 32 * v.val + d.val, by omega⟩
      + ∑ s : Fin 6, ∑ d : Fin 16, f ⟨112 + 16 * s.val + d.val, by omega⟩ := by
  have h3 : ∀ {a n : Nat} (g : Fin (a * n) → EReal), ∑ j : Fin (a * n), g j
      = ∑ v : Fin a, ∑ d : Fin n, g ⟨n * v.val + d.val, by have := Nat.mul_le_mul_left n v.isLt; have := d.isLt; rw [Nat.mul_comm a n]; rw [Nat.mul_succ] at *; omega⟩ := by
    intro a n g
    rw [← finProdFinEquiv.sum_comp, Fintype.sum_prod_type]
    refine Finset.sum_congr rfl fun v _ => Finset.sum_congr rfl fun d _ => congrArg g (Fin.ext ?_)
    exact Nat.add_comm d.val (n * v.val)
  rw [Fin.sum_univ_add (a := 112) (b := 96), Fin.sum_univ_add (a := 16) (b := 96)]
  refine congrArg₂ (· + ·) (congrArg₂ (· + ·) rfl ?_) ?_
  · refine (h3 (a := 3) (n := 32) _).trans (Finset.sum_congr rfl fun v _ => Finset.sum_congr rfl fun d _ => congrArg f (Fin.ext ?_))
    exact (Nat.add_assoc 16 (32 * v.val) d.val).symm
  · refine (h3 (a := 6) (n := 16) _).trans (Finset.sum_congr rfl fun v _ => Finset.sum_congr rfl fun d _ => congrArg f (Fin.ext ?_))
    exact (Nat.add_assoc 112 (16 * v.val) d.val).symm

/-- The conjuncts at an index, over the facts' vector. -/
theorem conj_facts (x : FVec Ideal S32x1320x208 .f32) (a3 : FVec Ideal S6x64x208 .f32) (a4 : FVec Ideal S6x64 .f32) (b : Fin 32) (p : Fin 1320) (q : Fin 6)
    (l : Fin 64) :
    (Host.tanh (addf (Host.dotGeneral dot_S32x1320x208_S6x64x208_S32x1320x6x64_2_2_01_01_n_n none x a3)
      (broadcastInDim S32x1320x6x64 ![0, 1, 2, 3] bcast_S1x1x6x64_S32x1320x6x64_0_1_2_3 (broadcastInDim S1x1x6x64 ![2, 3] bcast_S6x64_S1x1x6x64_2_3 a4))
      : FVec Ideal S32x1320x6x64 .f32)) (ix4 b p q l) = Ideal.tanh (∑ d : Fin 208, x (ix3 b p d) * a3 (ix3 q l d) + a4 (ix2 q l)) := by
  pointwise []

/-- The binary range, over the six pairs. -/
theorem rFacts_pair (a0 : FVec Ideal S32x16 .f32) (a1 : FVec Ideal S32x12x32 .f32) (a2 : FVec Ideal S32x12x11x16 .f32) (b : Fin 32)
    (o : Fin 12) (r : Fin 11) (k : Fin 10) (s : Fin 6) (d : Fin 16) :
    rFacts a0 a1 a2 (ix3 b (row o r k) (⟨112 + 16 * s.val + d.val, by omega⟩ : Fin 208)) = a2 (ix4 b (fstOf o r k s) (sndOf o r k s) d) := by
  have h := rFacts_bin a0 a1 a2 b o r k ⟨s.val / 2, by omega⟩ ⟨s.val % 2, by omega⟩ d
  have e : 2 * (s.val / 2) + s.val % 2 = s.val := by omega
  simp only [e] at h
  exact h

/-- The eleven shares in the order in which each program adds them. -/
theorem reorder (n u v w a b c d e f g : EReal) :
    n + (u + v + w) + (a + b + c + d + e + f) + g = (u + n + g + v) + (a + c) + (w + (b + e)) + (d + f) := by
  ac_rfl

/-- A conjunct of the reference is the specification's. -/
theorem rConj_apply (a0 : FVec Ideal S32x16 .f32) (a1 : FVec Ideal S32x12x32 .f32) (a2 : FVec Ideal S32x12x11x16 .f32) (a3 : FVec Ideal S6x64x208 .f32)
    (a4 : FVec Ideal S6x64 .f32) (b : Fin 32) (o : Fin 12) (r : Fin 11) (k : Fin 10) (q : Fin 6) (l : Fin 64) :
    rConj a0 a1 a2 a3 a4 (ix4 b (row o r k) q l) = act (wOf a3) (biasOf a4) (fun d => a0 (ix2 b d)) (fun o d => a1 (ix3 b o d))
      (fun o r d => a2 (ix4 b o r d)) o r k ⟨64 * q.val + l.val, by omega⟩ := by
  have eq : (⟨(64 * q.val + l.val) / 64, by omega⟩ : Fin 6) = q := Fin.ext (by simp only []; omega)
  have el : (⟨(64 * q.val + l.val) % 64, by omega⟩ : Fin 64) = l := Fin.ext (by simp only []; omega)
  have ew : ∀ d : Fin 208, wOf a3 ⟨64 * q.val + l.val, by omega⟩ d = a3 (ix3 q l d) := by
    intro d
    show a3 (ix3 _ _ d) = _
    rw [eq, el]
  have eb : biasOf a4 ⟨64 * q.val + l.val, by omega⟩ = a4 (ix2 q l) := by
    show a4 (ix2 _ _) = _
    rw [eq, el]
  unfold rConj
  rw [conj_facts, sum_208]
  unfold act
  refine congrArg Ideal.tanh ?_
  simp only [rFacts_nul, rFacts_una, rFacts_pair, ← ew, ← eb]
  generalize (⟨64 * q.val + l.val, by omega⟩ : Fin 384) = c
  rw [Fin.sum_univ_three, Fin.sum_univ_six]
  unfold pre preGA preH preC
  rw [skip_skip]
  show _ = (preU _ _ _ _ _ + preN _ _ _ + _ + preU _ _ _ _ _) + (preB _ _ _ _ _ _ + preB _ _ _ _ _ _)
    + (preU _ _ _ _ _ + (preB _ _ _ _ _ _ + preB _ _ _ _ _ _)) + (preB _ _ _ _ _ _ + preB _ _ _ _ _ _)
  exact reorder _ _ _ _ _ _ _ _ _ _ _

end Cert.Dnf

end

end
-- ==== Proof.RRes.lean ====
/- The reference's results at an index. -/
module

public import proofs.«01_k».proof.Proof.RRead
public import proofs.«01_k».proof.Proof.KRun

@[expose] public section

set_option maxRecDepth 16384

noncomputable section

namespace Cert.Dnf

open Idealize.ShloMosaic Cert.ReferenceIdeal Cert.ReferenceIdeal.Gen

/-! ## The results, of the conjuncts -/

section Ops

variable (x : FVec Ideal S32x1320x6x64 .f32) (g : FVec Ideal S2x64 .f32)

/-- The gates' sigmoid. -/
def rGate : FVec Ideal S2x64 .f32 :=
  Host.divf (broadcastInDim S2x64 ![] bcast_S_S2x64 (constant S_ .f32 0x3F800000#32))
    (addf (broadcastInDim S2x64 ![] bcast_S_S2x64 (constant S_ .f32 0x3F800000#32)) (Host.exp (Host.negf g)))

/-- The nullary conjuncts' greatest values. -/
def rMaxN : FVec Ideal S32x2x64 .f32 :=
  Host.reduce FloatOps.maximumf (extractStridedSlice S32x1320x2x64 ![0, 0, 0, 0] x slices_S32x1320x6x64_S32x1320x2x64_0_0_0_0)
    (constant S_ .f32 0xFF800000#32) reducesTo_S32x1320x2x64_S32x2x64_d1 h_S_
/-- The unary conjuncts' greatest values. -/
def rMaxU : FVec Ideal S32x12x2x64 .f32 :=
  Host.reduce FloatOps.maximumf (shapeCast S32x12x110x2x64 (extractStridedSlice S32x1320x2x64 ![0, 0, 2, 0] x slices_S32x1320x6x64_S32x1320x2x64_0_0_2_0)
      shapeCasts_S32x1320x2x64_S32x12x110x2x64)
    (constant S_ .f32 0xFF800000#32) reducesTo_S32x12x110x2x64_S32x12x2x64_d2 h_S_
/-- The binary conjuncts' greatest values. -/
def rMaxB : FVec Ideal S32x12x11x2x64 .f32 :=
  Host.reduce FloatOps.maximumf (shapeCast S32x12x11x10x2x64 (extractStridedSlice S32x1320x2x64 ![0, 0, 4, 0] x slices_S32x1320x6x64_S32x1320x2x64_0_0_4_0)
      shapeCasts_S32x1320x2x64_S32x12x11x10x2x64)
    (constant S_ .f32 0xFF800000#32) reducesTo_S32x12x11x10x2x64_S32x12x11x2x64_d3 h_S_

/-- The nullary result. -/
def rOutN (y : FVec Ideal S32x2x64 .f32) (w : FVec Ideal S2x64 .f32) : FVec Ideal S32x2 .f32 :=
  Host.tanh (transpose S32x2 [1, 0] (Host.dotGeneral dot_S2x64_S32x2x64_S2x32_1_2_n_0_0_1 none w y) transposes_S2x32_S32x2_1_0)
/-- The unary result. -/
def rOutU (y : FVec Ideal S32x12x2x64 .f32) (w : FVec Ideal S2x64 .f32) : FVec Ideal S32x12x2 .f32 :=
  Host.tanh (transpose S32x12x2 [1, 2, 0] (Host.dotGeneral dot_S2x64_S32x12x2x64_S2x32x12_1_3_n_01_0_2 none w y) transposes_S2x32x12_S32x12x2_1_2_0)
/-- The binary result. -/
def rOutB (y : FVec Ideal S32x12x11x2x64 .f32) (w : FVec Ideal S2x64 .f32) : FVec Ideal S32x12x11x2 .f32 :=
  Host.tanh (transpose S32x12x11x2 [1, 2, 3, 0] (Host.dotGeneral dot_S2x64_S32x12x11x2x64_S2x32x12x11_1_4_n_012_0_3 none w y)
    transposes_S2x32x12x11_S32x12x11x2_1_2_3_0)

/-- The gates' sigmoid at an index. -/
theorem rGate_apply (i : Fin 2) (l : Fin 64) : rGate g (ix2 i l) = Ideal.logistic (g (ix2 i l)) := by
  pointwise [rGate, Ideal.logistic]

/-- The nullary conjuncts' greatest value at an index. -/
theorem rMaxN_apply (b : Fin 32) (i : Fin 2) (l : Fin 64) : rMaxN x (ix3 b i l) = Finset.univ.sup fun o : Fin 12 => Finset.univ.sup fun r : Fin 11 =>
    Finset.univ.sup fun k : Fin 10 => x (ix4 b (row o r k) (⟨i.val, by omega⟩ : Fin 6) l) := by
  pointwise [rMaxN]
  rw [ofBits_neg_inf]
  refine (sup_groups (m := 12) (n := 110) (fun a e => by omega) rfl _).trans (congrArg (Finset.sup Finset.univ) (funext fun o => ?_))
  refine (sup_groups (m := 11) (n := 10) (fun a e => by omega) rfl _).trans (congrArg (Finset.sup Finset.univ) (funext fun r => ?_))
  refine congrArg (Finset.sup Finset.univ) (funext fun k => congrArg (fun p => x (ix4 b p _ l)) (Fin.ext ?_))
  exact (Nat.add_assoc _ _ _).symm

/-- The unary conjuncts' greatest value at an index. -/
theorem rMaxU_apply (b : Fin 32) (o : Fin 12) (i : Fin 2) (l : Fin 64) : rMaxU x (ix4 b o i l) = Finset.univ.sup fun r : Fin 11 =>
    Finset.univ.sup fun k : Fin 10 => x (ix4 b (row o r k) (⟨2 + i.val, by omega⟩ : Fin 6) l) := by
  pointwise [rMaxU]
  rw [ofBits_neg_inf]
  refine (sup_groups (m := 11) (n := 10) (fun a e => by omega) rfl _).trans (congrArg (Finset.sup Finset.univ) (funext fun r => ?_))
  refine congrArg (Finset.sup Finset.univ) (funext fun k => congrArg (fun p => x (ix4 b p _ l)) (Fin.ext ?_))
  show o.val * 110 + (10 * r.val + k.val) = 110 * o.val + 10 * r.val + k.val
  omega

/-- The greatest value over the indices that agree off the third object. -/
theorem sup_third (f : S32x12x11x10x2x64.Idx → EReal) (b : Fin 32) (o : Fin 12) (r : Fin 11) (i : Fin 2) (l : Fin 64) :
    (Finset.univ.filter fun j => reducesTo_S32x12x11x10x2x64_S32x12x11x2x64_d3.drop j = ix5 b o r i l).sup f
      = Finset.univ.sup fun k : Fin 10 => f (ix6 b o r k i l) := by
  apply le_antisymm
  · refine Finset.sup_le fun j hj => ?_
    have h := (Finset.mem_filter.1 hj).2
    have hc : ∀ a, ((reducesTo_S32x12x11x10x2x64_S32x12x11x2x64_d3.drop j a).val : Nat) = ((ix5 b o r i l : S32x12x11x2x64.Idx) a).val :=
      fun a => congrArg (fun z : S32x12x11x2x64.Idx => (z a).val) h
    have h0 : (j 0).val = b.val := (Shape.ReducesTo.drop_apply_val _ j 0).symm.trans (hc 0)
    have h1 : (j 1).val = o.val := (Shape.ReducesTo.drop_apply_val _ j 1).symm.trans (hc 1)
    have h2 : (j 2).val = r.val := (Shape.ReducesTo.drop_apply_val _ j 2).symm.trans (hc 2)
    have h4 : (j 4).val = i.val := (Shape.ReducesTo.drop_apply_val _ j 3).symm.trans (hc 3)
    have h5 : (j 5).val = l.val := (Shape.ReducesTo.drop_apply_val _ j 4).symm.trans (hc 4)
    have e : j = ix6 b o r (j 3) i l := by
      funext a
      have ha : ∀ a : Fin 6, a = 0 ∨ a = 1 ∨ a = 2 ∨ a = 3 ∨ a = 4 ∨ a = 5 := by decide
      rcases ha a with rfl | rfl | rfl | rfl | rfl | rfl
      · exact Fin.ext h0
      · exact Fin.ext h1
      · exact Fin.ext h2
      · rfl
      · exact Fin.ext h4
      · exact Fin.ext h5
    rw [e]
    exact Finset.le_sup (f := fun k : Fin 10 => f (ix6 b o r k i l)) (Finset.mem_univ (j 3))
  · refine Finset.sup_le fun k _ => Finset.le_sup (f := f) (Finset.mem_filter.2 ⟨Finset.mem_univ _, ?_⟩)
    funext a
    have ha : ∀ a : Fin 5, a = 0 ∨ a = 1 ∨ a = 2 ∨ a = 3 ∨ a = 4 := by decide
    refine Fin.ext ((Shape.ReducesTo.drop_apply_val _ _ a).trans ?_)
    rcases ha a with rfl | rfl | rfl | rfl | rfl <;> rfl

/-- The binary conjuncts' greatest value at an index. -/
theorem rMaxB_apply (b : Fin 32) (o : Fin 12) (r : Fin 11) (i : Fin 2) (l : Fin 64) : rMaxB x (ix5 b o r i l) =
    Finset.univ.sup fun k : Fin 10 => x (ix4 b (row o r k) (⟨4 + i.val, by omega⟩ : Fin 6) l) := by
  pointwise [rMaxB]
  rw [ofBits_neg_inf]
  refine (sup_third _ b o r i l).trans (congrArg (Finset.sup Finset.univ) (funext fun k => congrArg (fun p => x (ix4 b p _ l)) (Fin.ext ?_)))
  show o.val * 110 + r.val * 10 + k.val = 110 * o.val + 10 * r.val + k.val
  omega

/-- The nullary result at an index. -/
theorem rOutN_apply (y : FVec Ideal S32x2x64 .f32) (w : FVec Ideal S2x64 .f32) (b : Fin 32) (i : Fin 2) :
    rOutN y w (ix2 b i) = Ideal.tanh (∑ l : Fin 64, w (ix2 i l) * y (ix3 b i l)) := by
  pointwise [rOutN]

/-- The unary result at an index. -/
theorem rOutU_apply (y : FVec Ideal S32x12x2x64 .f32) (w : FVec Ideal S2x64 .f32) (b : Fin 32) (o : Fin 12) (i : Fin 2) :
    rOutU y w (ix3 b o i) = Ideal.tanh (∑ l : Fin 64, w (ix2 i l) * y (ix4 b o i l)) := by
  pointwise [rOutU]

/-- The binary result at an index. -/
theorem rOutB_apply (y : FVec Ideal S32x12x11x2x64 .f32) (w : FVec Ideal S2x64 .f32) (b : Fin 32) (o : Fin 12) (r : Fin 11) (i : Fin 2) :
    rOutB y w (ix4 b o r i) = Ideal.tanh (∑ l : Fin 64, w (ix2 i l) * y (ix5 b o r i l)) := by
  pointwise [rOutB]

end Ops

/-! ## The results, of the arguments -/

section Args

variable (a0 : FVec Ideal S32x16 .f32) (a1 : FVec Ideal S32x12x32 .f32) (a2 : FVec Ideal S32x12x11x16 .f32) (a3 : FVec Ideal S6x64x208 .f32)
  (a4 : FVec Ideal S6x64 .f32) (g : FVec Ideal S2x64 .f32)

/-- A gate, its two axes merged. -/
theorem gate_at (i : Fin 2) (l : Fin 64) : gate g ⟨64 * i.val + l.val, by omega⟩ = g (ix2 i l) := by
  have ei : (⟨(64 * i.val + l.val) / 64, by omega⟩ : Fin 2) = i := Fin.ext (by simp only []; omega)
  have el : (⟨(64 * i.val + l.val) % 64, by omega⟩ : Fin 64) = l := Fin.ext (by simp only []; omega)
  show g (ix2 _ _) = _
  rw [ei, el]

/-- The reference's nullary result is the specification's. -/
theorem resN_eq (b : Fin 32) (i : Fin 2) : rOutN (rMaxN (rConj a0 a1 a2 a3 a4)) (rGate g) (ix2 b i) = resN a0 a1 a2 a3 a4 g b i := by
  rw [rOutN_apply]
  unfold resN disN
  refine congrArg Ideal.tanh (Finset.sum_congr rfl fun l _ => ?_)
  rw [rGate_apply, rMaxN_apply, gate_at, mul_comm]
  simp only [rConj_apply]

/-- The reference's unary result is the specification's. -/
theorem resU_eq (b : Fin 32) (o : Fin 12) (i : Fin 2) :
    rOutU (rMaxU (rConj a0 a1 a2 a3 a4)) (rGate g) (ix3 b o i) = resU a0 a1 a2 a3 a4 g b o i := by
  rw [rOutU_apply]
  unfold resU disU
  refine congrArg Ideal.tanh (Finset.sum_congr rfl fun l _ => ?_)
  have e : (⟨64 * (2 + i.val) + l.val, by omega⟩ : Fin 384) = ⟨128 + (64 * i.val + l.val), by omega⟩ := Fin.ext (by simp only []; omega)
  rw [rGate_apply, rMaxU_apply, gate_at, mul_comm]
  simp only [rConj_apply, e]

/-- The reference's binary result is the specification's. -/
theorem resB_eq (b : Fin 32) (o : Fin 12) (r : Fin 11) (i : Fin 2) :
    rOutB (rMaxB (rConj a0 a1 a2 a3 a4)) (rGate g) (ix4 b o r i) = resB a0 a1 a2 a3 a4 g b o r i := by
  rw [rOutB_apply]
  unfold resB disB
  refine congrArg Ideal.tanh (Finset.sum_congr rfl fun l _ => ?_)
  have e : (⟨64 * (4 + i.val) + l.val, by omega⟩ : Fin 384) = ⟨256 + (64 * i.val + l.val), by omega⟩ := Fin.ext (by simp only []; omega)
  rw [rGate_apply, rMaxB_apply, gate_at, mul_comm]
  simp only [rConj_apply, e]

end Args

end Cert.Dnf

end

end
-- ==== Proof.Values.lean ====
/- The values of the kernel's and of the reference's results. -/
module

public import proofs.«01_k».proof.Proof.KTail
public import proofs.«01_k».proof.Proof.RRes
public import proofs.«01_k».proof.Proof.Gen.ReferenceIdeal.Run

@[expose] public section

set_option maxRecDepth 16384

noncomputable section

namespace Cert.Dnf

open Idealize.ShloMosaic Idealize.SL.Sem

/-! ## The results as arrays -/

section Arrays

open Cert.KernelIdeal

variable (a0 : FVec Ideal S32x16 .f32) (a1 : FVec Ideal S32x12x32 .f32) (a2 : FVec Ideal S32x12x11x16 .f32) (a3 : FVec Ideal S6x64x208 .f32)
  (a4 : FVec Ideal S6x64 .f32) (g : FVec Ideal S2x64 .f32)

/-- The nullary result. -/
def oN : FVec Ideal S32x2 .f32 := fun i => resN a0 a1 a2 a3 a4 g (i 0) (i 1)
/-- The unary result. -/
def oU : FVec Ideal S32x12x2 .f32 := fun i => resU a0 a1 a2 a3 a4 g (i 0) (i 1) (i 2)
/-- The binary result. -/
def oB : FVec Ideal S32x12x11x2 .f32 := fun i => resB a0 a1 a2 a3 a4 g (i 0) (i 1) (i 2) (i 3)
/-- The conjuncts. -/
def oC : FVec Ideal S32x1320x6x64 .f32 := fun i => conjOf a0 a1 a2 a3 a4 (i 0) (rowO (i 1)) (rowR (i 1)) (rowK (i 1))
  ⟨64 * (i 2).val + (i 3).val, by have h2 : (i 2).val < 6 := (i 2).isLt; have h3 : (i 3).val < 64 := (i 3).isLt; omega⟩

/-- A row is the row of its three objects. -/
theorem row_of (p : Fin 1320) : row (rowO p) (rowR p) (rowK p) = p := by
  refine Fin.ext ?_
  show 110 * (rowO p).val + 10 * (rowR p).val + (rowK p).val = p.val
  unfold rowO rowR rowK
  simp only []
  omega

end Arrays

/-! ## The kernel -/

section Kernel

open Cert.KernelIdeal Cert.KernelIdeal.Gen

variable (m : (ℓ : Loc nD τ sig) → Buf (Elt Ideal) ℓ) (ρ : Dev nD → PrngReg)

/-- The kernel's run leaves the results at the specification's arrays and the arguments unchanged. -/
theorem kernel_run : θ_run (defs (F := Ideal)) (onTc (τ := τ) (main (F := Ideal))) ⟨m, fun _ => 0, ρ⟩ fun r => ∀ c : Dev nD,
    r.2.mem ((c.tc : Thread nD τ).loc main_v28) = oN (a0 m c) (a1 m c) (a2 m c) (a3 m c) (a4 m c) (a5 m c)
    ∧ r.2.mem ((c.tc : Thread nD τ).loc main_v24_2) = oU (a0 m c) (a1 m c) (a2 m c) (a3 m c) (a4 m c) (a6 m c)
    ∧ r.2.mem ((c.tc : Thread nD τ).loc main_v27) = oB (a0 m c) (a1 m c) (a2 m c) (a3 m c) (a4 m c) (a7 m c)
    ∧ r.2.mem ((c.tc : Thread nD τ).loc main_v26) = oC (a0 m c) (a1 m c) (a2 m c) (a3 m c) (a4 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) := by
  refine (θ_run defs _ _).mono ?_ (θ_run_and (unchanged m ρ) (run_main m ρ))
  rintro r ⟨hu, h⟩ c
  refine ⟨?_, ?_, ?_, ?_, hu c⟩
  · refine ((h c).2 main_v28 (Pipeline.mem_restRefs_of main_v28 (by decide) (by decide))).trans ?_
    refine funext fun i : S32x2.Idx => ?_
    rw [eq_ix2 i]
    exact tail28 m c (i 0) (i 1)
  · exact ((h c).1 12).trans (arr12 m c)
  · refine ((h c).2 main_v27 (Pipeline.mem_restRefs_of main_v27 (by decide) (by decide))).trans ?_
    refine funext fun i : S32x12x11x2.Idx => ?_
    rw [eq_ix4 i]
    exact tail27 m c (i 0) (i 1) (i 2) (i 3)
  · refine ((h c).2 main_v26 (Pipeline.mem_restRefs_of main_v26 (by decide) (by decide))).trans ?_
    refine funext fun i : S32x1320x6x64.Idx => ?_
    obtain ⟨b, p, q, l, rfl⟩ : ∃ (b : Fin 32) (p : Fin 1320) (q : Fin 6) (l : Fin 64), i = ix4 b p q l := ⟨i 0, i 1, i 2, i 3, eq_ix4 i⟩
    refine Eq.trans ?_ (tail26 m c b (rowO p) (rowR p) (rowK p) q l)
    exact congrArg (fun z => (Pipeline.afterTail₀ cfgs (dats (F := Ideal) m) 0 (V0 m) [hostOps1] c main_v26 : FVec Ideal S32x1320x6x64 .f32)
      (ix4 b z q l)) (row_of p).symm

end Kernel

/-! ## The reference -/

section Reference

open Cert.ReferenceIdeal Cert.ReferenceIdeal.Gen

variable (a0 : FVec Ideal S32x16 .f32) (a1 : FVec Ideal S32x12x32 .f32) (a2 : FVec Ideal S32x12x11x16 .f32) (a3 : FVec Ideal S6x64x208 .f32)
  (a4 : FVec Ideal S6x64 .f32) (g : FVec Ideal S2x64 .f32)

/-- The reference's nullary result as an array. -/
theorem rOutN_eq : rOutN (rMaxN (rConj a0 a1 a2 a3 a4)) (rGate g) = oN a0 a1 a2 a3 a4 g := by
  refine funext fun i : S32x2.Idx => ?_
  rw [eq_ix2 i]
  exact resN_eq a0 a1 a2 a3 a4 g (i 0) (i 1)

/-- The reference's unary result as an array. -/
theorem rOutU_eq : rOutU (rMaxU (rConj a0 a1 a2 a3 a4)) (rGate g) = oU a0 a1 a2 a3 a4 g := by
  refine funext fun i : S32x12x2.Idx => ?_
  rw [eq_ix3 i]
  exact resU_eq a0 a1 a2 a3 a4 g (i 0) (i 1) (i 2)

/-- The reference's binary result as an array. -/
theorem rOutB_eq : rOutB (rMaxB (rConj a0 a1 a2 a3 a4)) (rGate g) = oB a0 a1 a2 a3 a4 g := by
  refine funext fun i : S32x12x11x2.Idx => ?_
  rw [eq_ix4 i]
  exact resB_eq a0 a1 a2 a3 a4 g (i 0) (i 1) (i 2) (i 3)

/-- The reference's conjuncts as an array. -/
theorem rConj_eq : rConj a0 a1 a2 a3 a4 = oC a0 a1 a2 a3 a4 := by
  refine funext fun i : S32x1320x6x64.Idx => ?_
  obtain ⟨b, p, q, l, rfl⟩ : ∃ (b : Fin 32) (p : Fin 1320) (q : Fin 6) (l : Fin 64), i = ix4 b p q l := ⟨i 0, i 1, i 2, i 3, eq_ix4 i⟩
  refine Eq.trans ?_ (rConj_apply a0 a1 a2 a3 a4 b (rowO p) (rowR p) (rowK p) q l)
  exact congrArg (fun z => rConj a0 a1 a2 a3 a4 (ix4 b z q l)) (row_of p).symm

/-- The reference's run leaves the results at the specification's arrays and the arguments unchanged. -/
theorem reference_run (m : (ℓ : Loc nD τ sig) → Buf (Elt Ideal) ℓ) (ρ : Dev nD → PrngReg)
    (x0 : Dev nD → FVec Ideal S32x16 .f32) (x1 : Dev nD → FVec Ideal S32x12x32 .f32) (x2 : Dev nD → FVec Ideal S32x12x11x16 .f32)
    (x3 : Dev nD → FVec Ideal S6x64x208 .f32) (x4 : Dev nD → FVec Ideal S6x64 .f32) (x5 x6 x7 : Dev nD → FVec Ideal S2x64 .f32)
    (h0 : ∀ c : Dev nD, m ((c.tc : Thread nD τ).loc main_arg0) = x0 c) (h1 : ∀ c : Dev nD, m ((c.tc : Thread nD τ).loc main_arg1) = x1 c)
    (h2 : ∀ c : Dev nD, m ((c.tc : Thread nD τ).loc main_arg2) = x2 c) (h3 : ∀ c : Dev nD, m ((c.tc : Thread nD τ).loc main_arg3) = x3 c)
    (h4 : ∀ c : Dev nD, m ((c.tc : Thread nD τ).loc main_arg4) = x4 c) (h5 : ∀ c : Dev nD, m ((c.tc : Thread nD τ).loc main_arg5) = x5 c)
    (h6 : ∀ c : Dev nD, m ((c.tc : Thread nD τ).loc main_arg6) = x6 c) (h7 : ∀ c : Dev nD, m ((c.tc : Thread nD τ).loc main_arg7) = x7 c) :
    θ_run (defs (F := Ideal)) (onTc (τ := τ) (main (F := Ideal))) ⟨m, fun _ => 0, ρ⟩ fun r => ∀ c : Dev nD,
    r.2.mem ((c.tc : Thread nD τ).loc main_v38) = oN (x0 c) (x1 c) (x2 c) (x3 c) (x4 c) (x5 c)
    ∧ r.2.mem ((c.tc : Thread nD τ).loc main_v47) = oU (x0 c) (x1 c) (x2 c) (x3 c) (x4 c) (x6 c)
    ∧ r.2.mem ((c.tc : Thread nD τ).loc main_v56) = oB (x0 c) (x1 c) (x2 c) (x3 c) (x4 c) (x7 c)
    ∧ r.2.mem ((c.tc : Thread nD τ).loc main_v21) = oC (x0 c) (x1 c) (x2 c) (x3 c) (x4 c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) := by
  refine (θ_run defs _ _).mono ?_ (Cert.ReferenceIdeal.Value.run m ρ)
  intro r h c
  obtain ⟨e38, e47, e56, e21, hu⟩ := h c
  refine ⟨?_, ?_, ?_, ?_, hu⟩
  · rw [← rOutN_eq, ← h0, ← h1, ← h2, ← h3, ← h4, ← h5]
    exact e38
  · rw [← rOutU_eq, ← h0, ← h1, ← h2, ← h3, ← h4, ← h6]
    exact e47
  · rw [← rOutB_eq, ← h0, ← h1, ← h2, ← h3, ← h4, ← h7]
    exact e56
  · rw [← rConj_eq, ← h0, ← h1, ← h2, ← h3, ← h4]
    exact e21

end Reference

end Cert.Dnf

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Values
public import Idealize.ShloMosaic.Adequacy
public import Idealize.ShloMosaic.Init

@[expose] public section

noncomputable section

namespace Cert.Proof

open Idealize.ShloMosaic Idealize.SL.Sem Cert.Kernel

/-- The certificate. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2.2.2.2, sem_eq_zero_of_no_sems rfl r.2⟩) (Cert.ReferenceIdeal.Value.run m ρ),
  trivial,
  fun m g m' g' _ h => ⟨
    fun c => Cert.Dnf.oN (Cert.Dnf.a0 m c) (Cert.Dnf.a1 m c) (Cert.Dnf.a2 m c) (Cert.Dnf.a3 m c) (Cert.Dnf.a4 m c) (Cert.Dnf.a5 m c),
    fun c => Cert.Dnf.oU (Cert.Dnf.a0 m c) (Cert.Dnf.a1 m c) (Cert.Dnf.a2 m c) (Cert.Dnf.a3 m c) (Cert.Dnf.a4 m c) (Cert.Dnf.a6 m c),
    fun c => Cert.Dnf.oB (Cert.Dnf.a0 m c) (Cert.Dnf.a1 m c) (Cert.Dnf.a2 m c) (Cert.Dnf.a3 m c) (Cert.Dnf.a4 m c) (Cert.Dnf.a7 m c),
    fun c => Cert.Dnf.oC (Cert.Dnf.a0 m c) (Cert.Dnf.a1 m c) (Cert.Dnf.a2 m c) (Cert.Dnf.a3 m c) (Cert.Dnf.a4 m c),
    Cert.Dnf.kernel_run m g,
    Cert.Dnf.reference_run m' g' _ _ _ _ _ _ _ _ (fun c => (h c).1) (fun c => (h c).2.1) (fun c => (h c).2.2.1) (fun c => (h c).2.2.2.1)
      (fun c => (h c).2.2.2.2.1) (fun c => (h c).2.2.2.2.2.1) (fun c => (h c).2.2.2.2.2.2.1) (fun c => (h c).2.2.2.2.2.2.2)⟩⟩

end Cert.Proof

end
